-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x128 : Shape := ⟨2, ![16384, 128]⟩
abbrev S8128 : Shape := ⟨1, ![8128]⟩
abbrev S128 : Shape := ⟨1, ![128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8128 : S_.BroadcastsInDim S8128 (![] : Fin 0 → Fin S8128.rank)
  reducesTo_S8128_S_d0 : S8128.ReducesTo [0] S_

variable [Facts]

def fn {F : FTy → Type} [FloatOps F] (main_arg0 : FVec F S16384x128 .f32) (main_arg1 : FVec F S8128 .f32) (main_arg2 : FVec F S128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S8128 .f32 := Host.absf main_arg1
  let main_cst_0 : FVec F S_ .f32 := constant S_ .f32 0x7F800000#32
  let main_v5 : FVec F S8128 .f32 := broadcastInDim S8128 ![] bcast_S_S8128 main_cst_0
  let main_v6 : IVec S8128 1 := cmpf .olt main_v4 main_v5
  let main_c_1 : IVec S_ 1 := constantI S_ 1 1#1
  let main_v7 : IVec S_ 1 := (fun x v => Host.reduce IntOp.andi x v reducesTo_S8128_S_d0 h_S_) main_v6 main_c_1
  let main_v8 : IVec S_ 1 := andi main_v3 main_v7
  main_v8
-- ==== Kernel.lean ====
abbrev S16384x128 : Shape := ⟨2, ![16384, 128]⟩
abbrev S8128 : Shape := ⟨1, ![8128]⟩
abbrev S128 : Shape := ⟨1, ![128]⟩
abbrev S256 : Shape := ⟨1, ![256]⟩
abbrev S256x128 : Shape := ⟨2, ![256, 128]⟩
abbrev S_ : Shape := ⟨0, ![]⟩
abbrev S8192 : Shape := ⟨1, ![8192]⟩
abbrev S64x128 : Shape := ⟨2, ![64, 128]⟩
abbrev S1x128 : Shape := ⟨2, ![1, 128]⟩
abbrev S8192x128 : Shape := ⟨2, ![8192, 128]⟩
abbrev S128x128 : Shape := ⟨2, ![128, 128]⟩
abbrev S8x128x128 : Shape := ⟨3, ![8, 128, 128]⟩
abbrev S4x128x128 : Shape := ⟨3, ![4, 128, 128]⟩
abbrev S64x2x64 : Shape := ⟨3, ![64, 2, 64]⟩
abbrev S128x64 : Shape := ⟨2, ![128, 64]⟩
abbrev S64x1x128 : Shape := ⟨3, ![64, 1, 128]⟩
abbrev S64x2x128 : Shape := ⟨3, ![64, 2, 128]⟩
abbrev S1 : Shape := ⟨1, ![1]⟩
abbrev S2x128 : Shape := ⟨2, ![2, 128]⟩
abbrev S16x128 : Shape := ⟨2, ![16, 128]⟩
abbrev S8x128 : Shape := ⟨2, ![8, 128]⟩
abbrev S8x1x128 : Shape := ⟨3, ![8, 1, 128]⟩
abbrev S8x128x128x1 : Shape := ⟨4, ![8, 128, 128, 1]⟩
abbrev S1x128x128 : Shape := ⟨3, ![1, 128, 128]⟩

abbrev nBuf : Space → Nat
  | .hbm => 12
  | .vmem => 15
  | .smem => 1
  | _ => 0

abbrev bufTy : (tb : Table) → Fin (tcTables nBuf tb) → BufTy
  | .hbm, ⟨0, _⟩ => ⟨S16384x128, .f32⟩
  | .hbm, ⟨1, _⟩ => ⟨S8128, .f32⟩
  | .hbm, ⟨2, _⟩ => ⟨S128, .f32⟩
  | .hbm, ⟨3, _⟩ => ⟨S256, .i32⟩
  | .hbm, ⟨4, _⟩ => ⟨S256x128, .f32⟩
  | .hbm, ⟨5, _⟩ => ⟨S256x128, .f32⟩
  | .hbm, ⟨6, _⟩ => ⟨S_, .i32⟩
  | .hbm, ⟨7, _⟩ => ⟨S_, .f32⟩
  | .hbm, ⟨8, _⟩ => ⟨S8192, .f32⟩
  | .hbm, ⟨9, _⟩ => ⟨S64x128, .f32⟩
  | .hbm, ⟨10, _⟩ => ⟨S1x128, .f32⟩
  | .hbm, ⟨11, _⟩ => ⟨S16384x128, .f32⟩
  | .local _ .vmem, ⟨0, _⟩ => ⟨S64x128, .f32⟩
  | .local _ .vmem, ⟨1, _⟩ => ⟨S256x128, .f32⟩
  | .local _ .vmem, ⟨2, _⟩ => ⟨S256x128, .f32⟩
  | .local _ .vmem, ⟨3, _⟩ => ⟨S8192x128, .f32⟩
  | .local _ .vmem, ⟨4, _⟩ => ⟨S8192x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | .local _ .vmem, ⟨8, _⟩ => ⟨S128x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8x128x128, .f32⟩
  | .local _ .vmem, ⟨13, _⟩ => ⟨S4x128x128, .f32⟩
  | .local _ .vmem, ⟨14, _⟩ => ⟨S128x128, .f32⟩
  | .local _ .smem, ⟨0, _⟩ => ⟨S256, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_cst : Ref sig .tc := ⟨.hbm, 4, rfl⟩
abbrev main_cst_0 : Ref sig .tc := ⟨.hbm, 5, rfl⟩
abbrev main_c_1 : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c16_i32 : BitVec 32 := 16#32
  let v25 : BitVec 32 := Scalar.addi c0_i32_12 c16_i32
  let c1_i32 : BitVec 32 := 1#32
  ⟨c0_i32_12, v25, c1_i32⟩
def k0_off1 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c0_i32_102 : BitVec 32 := 0#32
  let v125 : BitVec 32 := Scalar.addi v124 c0_i32_102
  let v126 : Index := Scalar.indexCast v125
  ![v126.toNat]
def k0_off2 (v127 : BitVec 32) : Fin 2 → Nat :=
  let c7_i32 : BitVec 32 := 7#32
  let v128 : BitVec 32 := Scalar.shrui v127 c7_i32
  let v130 : Index := Scalar.indexCast v128
  let c0_104 : Index := 0#32
  ![v130.toNat, 0]

def k0_chk1 (i : grid0.Coords) (v127 : BitVec 32) : Prop :=
  (∀ (k0_h1 : k0_cond1 i = 1#1), ∀ a, (k0_off2 v127) a + S2x128.size a ≤ S128x128.size a)
theorem k0_off2_inb : ∀ (i : grid0.Coords) (v127 : BitVec 32) (k0_hw1 : k0_chk1 i v127), ∀ (k0_h1 : k0_cond1 i = 1#1), ∀ a, (k0_off2 v127) a + S2x128.size a ≤ S128x128.size a := fun i v127 k0_hw1 k0_h1 => k0_hw1 k0_h1

def k0_off3 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c1_i32_106 : BitVec 32 := 1#32
  let v140 : BitVec 32 := Scalar.addi v124 c1_i32_106
  let v141 : Index := Scalar.indexCast v140
  ![v141.toNat]
def k0_off4 (v142 : BitVec 32) : Fin 2 → Nat :=
  let c7_i32_107 : BitVec 32 := 7#32
  let v143 : BitVec 32 := Scalar.shrui v142 c7_i32_107
  let v145 : Index := Scalar.indexCast v143
  let c0_109 : Index := 0#32
  ![v145.toNat, 0]

def k0_chk2 (i : grid0.Coords) (v142 : BitVec 32) : Prop :=
  (∀ (k0_h1 : k0_cond1 i = 1#1), ∀ a, (k0_off4 v142) a + S2x128.size a ≤ S128x128.size a)
theorem k0_off4_inb : ∀ (i : grid0.Coords) (v142 : BitVec 32) (k0_hw2 : k0_chk2 i v142), ∀ (k0_h1 : k0_cond1 i = 1#1), ∀ a, (k0_off4 v142) a + S2x128.size a ≤ S128x128.size a := fun i v142 k0_hw2 k0_h1 => k0_hw2 k0_h1

def k0_off5 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c2_i32 : BitVec 32 := 2#32
  let v155 : BitVec 32 := Scalar.addi v124 c2_i32
  let v156 : Index := Scalar.indexCast v155
  ![v156.toNat]
def k0_off6 (v157 : BitVec 32) : Fin 2 → Nat :=
  let c7_i32_112 : BitVec 32 := 7#32
  let v158 : BitVec 32 := Scalar.shrui v157 c7_i32_112
  let v160 : Index := Scalar.indexCast v158
  let c0_114 : Index := 0#32
  ![v160.toNat, 0]

def k0_chk3 (i : grid0.Coords) (v157 : BitVec 32) : Prop :=
  (∀ (k0_h1 : k0_cond1 i = 1#1), ∀ a, (k0_off6 v157) a + S2x128.size a ≤ S128x128.size a)
theorem k0_off6_inb : ∀ (i : grid0.Coords) (v157 : BitVec 32) (k0_hw3 : k0_chk3 i v157), ∀ (k0_h1 : k0_cond1 i = 1#1), ∀ a, (k0_off6 v157) a + S2x128.size a ≤ S128x128.size a := fun i v157 k0_hw3 k0_h1 => k0_hw3 k0_h1

def k0_off7 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c3_i32 : BitVec 32 := 3#32
  let v170 : BitVec 32 := Scalar.addi v124 c3_i32
  let v171 : Index := Scalar.indexCast v170
  ![v171.toNat]
def k0_off8 (v172 : BitVec 32) : Fin 2 → Nat :=
  let c7_i32_117 : BitVec 32 := 7#32
  let v173 : BitVec 32 := Scalar.shrui v172 c7_i32_117
  let v175 : Index := Scalar.indexCast v173
  let c0_119 : Index := 0#32
  ![v175.toNat, 0]

def k0_chk4 (i : grid0.Coords) (v172 : BitVec 32) : Prop :=
  (∀ (k0_h1 : k0_cond1 i = 1#1), ∀ a, (k0_off8 v172) a + S2x128.size a ≤ S128x128.size a)
theorem k0_off8_inb : ∀ (i : grid0.Coords) (v172 : BitVec 32) (k0_hw4 : k0_chk4 i v172), ∀ (k0_h1 : k0_cond1 i = 1#1), ∀ a, (k0_off8 v172) a + S2x128.size a ≤ S128x128.size a := fun i v172 k0_hw4 k0_h1 => k0_hw4 k0_h1

def k0_off9 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c4_i32_122 : BitVec 32 := 4#32
  let v185 : BitVec 32 := Scalar.addi v124 c4_i32_122
  let v186 : Index := Scalar.indexCast v185
  ![v186.toNat]
def k0_off10 (v187 : BitVec 32) : Fin 2 → Nat :=
  let c7_i32_123 : BitVec 32 := 7#32
  let v188 : BitVec 32 := Scalar.shrui v187 c7_i32_123
  let v190 : Index := Scalar.indexCast v188
  let c0_125 : Index := 0#32
  ![v190.toNat, 0]

def k0_chk5 (i : grid0.Coords) (v187 : BitVec 32) : Prop :=
  (∀ (k0_h1 : k0_cond1 i = 1#1), ∀ a, (k0_off10 v187) a + S2x128.size a ≤ S128x128.size a)
theorem k0_off10_inb : ∀ (i : grid0.Coords) (v187 : BitVec 32) (k0_hw5 : k0_chk5 i v187), ∀ (k0_h1 : k0_cond1 i = 1#1), ∀ a, (k0_off10 v187) a + S2x128.size a ≤ S128x128.size a := fun i v187 k0_hw5 k0_h1 => k0_hw5 k0_h1

def k0_off11 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c5_i32 : BitVec 32 := 5#32
  let v200 : BitVec 32 := Scalar.addi v124 c5_i32
  let v201 : Index := Scalar.indexCast v200
  ![v201.toNat]
def k0_off12 (v202 : BitVec 32) : Fin 2 → Nat :=
  let c7_i32_128 : BitVec 32 := 7#32
  let v203 : BitVec 32 := Scalar.shrui v202 c7_i32_128
  let v205 : Index := Scalar.indexCast v203
  let c0_130 : Index := 0#32
  ![v205.toNat, 0]

def k0_chk6 (i : grid0.Coords) (v202 : BitVec 32) : Prop :=
  (∀ (k0_h1 : k0_cond1 i = 1#1), ∀ a, (k0_off12 v202) a + S2x128.size a ≤ S128x128.size a)
theorem k0_off12_inb : ∀ (i : grid0.Coords) (v202 : BitVec 32) (k0_hw6 : k0_chk6 i v202), ∀ (k0_h1 : k0_cond1 i = 1#1), ∀ a, (k0_off12 v202) a + S2x128.size a ≤ S128x128.size a := fun i v202 k0_hw6 k0_h1 => k0_hw6 k0_h1

def k0_off13 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c6_i32 : BitVec 32 := 6#32
  let v215 : BitVec 32 := Scalar.addi v124 c6_i32
  let v216 : Index := Scalar.indexCast v215
  ![v216.toNat]
def k0_off14 (v217 : BitVec 32) : Fin 2 → Nat :=
  let c7_i32_133 : BitVec 32 := 7#32
  let v218 : BitVec 32 := Scalar.shrui v217 c7_i32_133
  let v220 : Index := Scalar.indexCast v218
  let c0_135 : Index := 0#32
  ![v220.toNat, 0]

def k0_chk7 (i : grid0.Coords) (v217 : BitVec 32) : Prop :=
  (∀ (k0_h1 : k0_cond1 i = 1#1), ∀ a, (k0_off14 v217) a + S2x128.size a ≤ S128x128.size a)
theorem k0_off14_inb : ∀ (i : grid0.Coords) (v217 : BitVec 32) (k0_hw7 : k0_chk7 i v217), ∀ (k0_h1 : k0_cond1 i = 1#1), ∀ a, (k0_off14 v217) a + S2x128.size a ≤ S128x128.size a := fun i v217 k0_hw7 k0_h1 => k0_hw7 k0_h1

def k0_off15 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c7_i32_138 : BitVec 32 := 7#32
  let v230 : BitVec 32 := Scalar.addi v124 c7_i32_138
  let v231 : Index := Scalar.indexCast v230
  ![v231.toNat]
def k0_off16 (v232 : BitVec 32) : Fin 2 → Nat :=
  let c7_i32_139 : BitVec 32 := 7#32
  let v233 : BitVec 32 := Scalar.shrui v232 c7_i32_139
  let v235 : Index := Scalar.indexCast v233
  let c0_141 : Index := 0#32
  ![v235.toNat, 0]

def k0_chk8 (i : grid0.Coords) (v232 : BitVec 32) : Prop :=
  (∀ (k0_h1 : k0_cond1 i = 1#1), ∀ a, (k0_off16 v232) a + S2x128.size a ≤ S128x128.size a)
theorem k0_off16_inb : ∀ (i : grid0.Coords) (v232 : BitVec 32) (k0_hw8 : k0_chk8 i v232), ∀ (k0_h1 : k0_cond1 i = 1#1), ∀ a, (k0_off16 v232) a + S2x128.size a ≤ S128x128.size a := fun i v232 k0_hw8 k0_h1 => k0_hw8 k0_h1

def k0_off17 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c8_i32 : BitVec 32 := 8#32
  let v245 : BitVec 32 := Scalar.addi v124 c8_i32
  let v246 : Index := Scalar.indexCast v245
  ![v246.toNat]
def k0_off18 (v247 : BitVec 32) : Fin 2 → Nat :=
  let c7_i32_144 : BitVec 32 := 7#32
  let v248 : BitVec 32 := Scalar.shrui v247 c7_i32_144
  let v250 : Index := Scalar.indexCast v248
  let c0_146 : Index := 0#32
  ![v250.toNat, 0]

def k0_chk9 (i : grid0.Coords) (v247 : BitVec 32) : Prop :=
  (∀ (k0_h1 : k0_cond1 i = 1#1), ∀ a, (k0_off18 v247) a + S2x128.size a ≤ S128x128.size a)
theorem k0_off18_inb : ∀ (i : grid0.Coords) (v247 : BitVec 32) (k0_hw9 : k0_chk9 i v247), ∀ (k0_h1 : k0_cond1 i = 1#1), ∀ a, (k0_off18 v247) a + S2x128.size a ≤ S128x128.size a := fun i v247 k0_hw9 k0_h1 => k0_hw9 k0_h1

def k0_off19 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c9_i32 : BitVec 32 := 9#32
  let v260 : BitVec 32 := Scalar.addi v124 c9_i32
  let v261 : Index := Scalar.indexCast v260
  ![v261.toNat]
def k0_off20 (v262 : BitVec 32) : Fin 2 → Nat :=
  let c7_i32_149 : BitVec 32 := 7#32
  let v263 : BitVec 32 := Scalar.shrui v262 c7_i32_149
  let v265 : Index := Scalar.indexCast v263
  let c0_151 : Index := 0#32
  ![v265.toNat, 0]

def k0_chk10 (i : grid0.Coords) (v262 : BitVec 32) : Prop :=
  (∀ (k0_h1 : k0_cond1 i = 1#1), ∀ a, (k0_off20 v262) a + S2x128.size a ≤ S128x128.size a)
theorem k0_off20_inb : ∀ (i : grid0.Coords) (v262 : BitVec 32) (k0_hw10 : k0_chk10 i v262), ∀ (k0_h1 : k0_cond1 i = 1#1), ∀ a, (k0_off20 v262) a + S2x128.size a ≤ S128x128.size a := fun i v262 k0_hw10 k0_h1 => k0_hw10 k0_h1

def k0_off21 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c10_i32 : BitVec 32 := 10#32
  let v275 : BitVec 32 := Scalar.addi v124 c10_i32
  let v276 : Index := Scalar.indexCast v275
  ![v276.toNat]
def k0_off22 (v277 : BitVec 32) : Fin 2 → Nat :=
  let c7_i32_154 : BitVec 32 := 7#32
  let v278 : BitVec 32 := Scalar.shrui v277 c7_i32_154
  let v280 : Index := Scalar.indexCast v278
  let c0_156 : Index := 0#32
  ![v280.toNat, 0]

def k0_chk11 (i : grid0.Coords) (v277 : BitVec 32) : Prop :=
  (∀ (k0_h1 : k0_cond1 i = 1#1), ∀ a, (k0_off22 v277) a + S2x128.size a ≤ S128x128.size a)
theorem k0_off22_inb : ∀ (i : grid0.Coords) (v277 : BitVec 32) (k0_hw11 : k0_chk11 i v277), ∀ (k0_h1 : k0_cond1 i = 1#1), ∀ a, (k0_off22 v277) a + S2x128.size a ≤ S128x128.size a := fun i v277 k0_hw11 k0_h1 => k0_hw11 k0_h1

def k0_off23 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c11_i32 : BitVec 32 := 11#32
  let v290 : BitVec 32 := Scalar.addi v124 c11_i32
  let v291 : Index := Scalar.indexCast v290
  ![v291.toNat]
def k0_off24 (v292 : BitVec 32) : Fin 2 → Nat :=
  let c7_i32_159 : BitVec 32 := 7#32
  let v293 : BitVec 32 := Scalar.shrui v292 c7_i32_159
  let v295 : Index := Scalar.indexCast v293
  let c0_161 : Index := 0#32
  ![v295.toNat, 0]

def k0_chk12 (i : grid0.Coords) (v292 : BitVec 32) : Prop :=
  (∀ (k0_h1 : k0_cond1 i = 1#1), ∀ a, (k0_off24 v292) a + S2x128.size a ≤ S128x128.size a)
theorem k0_off24_inb : ∀ (i : grid0.Coords) (v292 : BitVec 32) (k0_hw12 : k0_chk12 i v292), ∀ (k0_h1 : k0_cond1 i = 1#1), ∀ a, (k0_off24 v292) a + S2x128.size a ≤ S128x128.size a := fun i v292 k0_hw12 k0_h1 => k0_hw12 k0_h1

def k0_off25 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c12_i32 : BitVec 32 := 12#32
  let v305 : BitVec 32 := Scalar.addi v124 c12_i32
  let v306 : Index := Scalar.indexCast v305
  ![v306.toNat]
def k0_off26 (v307 : BitVec 32) : Fin 2 → Nat :=
  let c7_i32_164 : BitVec 32 := 7#32
  let v308 : BitVec 32 := Scalar.shrui v307 c7_i32_164
  let v310 : Index := Scalar.indexCast v308
  let c0_166 : Index := 0#32
  ![v310.toNat, 0]

def k0_chk13 (i : grid0.Coords) (v307 : BitVec 32) : Prop :=
  (∀ (k0_h1 : k0_cond1 i = 1#1), ∀ a, (k0_off26 v307) a + S2x128.size a ≤ S128x128.size a)
theorem k0_off26_inb : ∀ (i : grid0.Coords) (v307 : BitVec 32) (k0_hw13 : k0_chk13 i v307), ∀ (k0_h1 : k0_cond1 i = 1#1), ∀ a, (k0_off26 v307) a + S2x128.size a ≤ S128x128.size a := fun i v307 k0_hw13 k0_h1 => k0_hw13 k0_h1

def k0_off27 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c13_i32 : BitVec 32 := 13#32
  let v320 : BitVec 32 := Scalar.addi v124 c13_i32
  let v321 : Index := Scalar.indexCast v320
  ![v321.toNat]
def k0_off28 (v322 : BitVec 32) : Fin 2 → Nat :=
  let c7_i32_169 : BitVec 32 := 7#32
  let v323 : BitVec 32 := Scalar.shrui v322 c7_i32_169
  let v325 : Index := Scalar.indexCast v323
  let c0_171 : Index := 0#32
  ![v325.toNat, 0]

def k0_chk14 (i : grid0.Coords) (v322 : BitVec 32) : Prop :=
  (∀ (k0_h1 : k0_cond1 i = 1#1), ∀ a, (k0_off28 v322) a + S2x128.size a ≤ S128x128.size a)
theorem k0_off28_inb : ∀ (i : grid0.Coords) (v322 : BitVec 32) (k0_hw14 : k0_chk14 i v322), ∀ (k0_h1 : k0_cond1 i = 1#1), ∀ a, (k0_off28 v322) a + S2x128.size a ≤ S128x128.size a := fun i v322 k0_hw14 k0_h1 => k0_hw14 k0_h1

def k0_off29 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c14_i32 : BitVec 32 := 14#32
  let v335 : BitVec 32 := Scalar.addi v124 c14_i32
  let v336 : Index := Scalar.indexCast v335
  ![v336.toNat]
def k0_off30 (v337 : BitVec 32) : Fin 2 → Nat :=
  let c7_i32_174 : BitVec 32 := 7#32
  let v338 : BitVec 32 := Scalar.shrui v337 c7_i32_174
  let v340 : Index := Scalar.indexCast v338
  let c0_176 : Index := 0#32
  ![v340.toNat, 0]

def k0_chk15 (i : grid0.Coords) (v337 : BitVec 32) : Prop :=
  (∀ (k0_h1 : k0_cond1 i = 1#1), ∀ a, (k0_off30 v337) a + S2x128.size a ≤ S128x128.size a)
theorem k0_off30_inb : ∀ (i : grid0.Coords) (v337 : BitVec 32) (k0_hw15 : k0_chk15 i v337), ∀ (k0_h1 : k0_cond1 i = 1#1), ∀ a, (k0_off30 v337) a + S2x128.size a ≤ S128x128.size a := fun i v337 k0_hw15 k0_h1 => k0_hw15 k0_h1

def k0_off31 (k0_t1 : Fin k0_t1_loop.trips) : Fin 1 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let c15_i32 : BitVec 32 := 15#32
  let v350 : BitVec 32 := Scalar.addi v124 c15_i32
  let v351 : Index := Scalar.indexCast v350
  ![v351.toNat]
def k0_off32 (v352 : BitVec 32) : Fin 2 → Nat :=
  let c7_i32_179 : BitVec 32 := 7#32
  let v353 : BitVec 32 := Scalar.shrui v352 c7_i32_179
  let v355 : Index := Scalar.indexCast v353
  let c0_181 : Index := 0#32
  ![v355.toNat, 0]

def k0_chk16 (i : grid0.Coords) (v352 : BitVec 32) : Prop :=
  (∀ (k0_h1 : k0_cond1 i = 1#1), ∀ a, (k0_off32 v352) a + S2x128.size a ≤ S128x128.size a)
theorem k0_off32_inb : ∀ (i : grid0.Coords) (v352 : BitVec 32) (k0_hw16 : k0_chk16 i v352), ∀ (k0_h1 : k0_cond1 i = 1#1), ∀ a, (k0_off32 v352) a + S2x128.size a ≤ S128x128.size a := fun i v352 k0_hw16 k0_h1 => k0_hw16 k0_h1

def k0_off33 (k0_t1 : Fin k0_t1_loop.trips) : Fin 2 → Nat :=
  let c16_i32_101 : BitVec 32 := 16#32
  let c0_i32_12 : BitVec 32 := 0#32
  let c1_i32 : BitVec 32 := 1#32
  let arg15 : BitVec 32 := Scf.iv c0_i32_12 c1_i32 k0_t1
  let v124 : BitVec 32 := Scalar.muli c16_i32_101 arg15
  let v366 : Index := Scalar.indexCast v124
  let c0_184 : Index := 0#32
  ![v366.toNat, 0]
@[reducible] def k0_t2_loop : Scf.Loop 32 :=
  let c0_i32_36 : BitVec 32 := 0#32
  let c4_i32 : BitVec 32 := 4#32
  let v67 : BitVec 32 := Scalar.addi c0_i32_36 c4_i32
  let c1_i32_37 : BitVec 32 := 1#32
  ⟨c0_i32_36, v67, c1_i32_37⟩
def k0_off34 (k0_t2 : Fin k0_t2_loop.trips) (c0_i32_104 : BitVec 32) : Fin 2 → Nat :=
  let c8_i32_105 : BitVec 32 := 8#32
  let c8_i32 : BitVec 32 := 8#32
  let c0_i32_36 : BitVec 32 := 0#32
  let c1_i32_37 : BitVec 32 := 1#32
  let arg15 : BitVec 32 := Scf.iv c0_i32_36 c1_i32_37 k0_t2
  let v125 : BitVec 32 := Scalar.muli c8_i32 arg15
  let v126 : BitVec 32 := Scalar.addi v125 c0_i32_104
  let v127 : BitVec 32 := Scalar.muli c8_i32_105 v126
  let v128 : Index := Scalar.indexCast v127
  let c0_106 : Index := 0#32
  ![v128.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x128 : Shape := ⟨2, ![16384, 128]⟩
abbrev S8128 : Shape := ⟨1, ![8128]⟩
abbrev S128 : Shape := ⟨1, ![128]⟩
abbrev S_ : Shape := ⟨0, ![]⟩
abbrev S1 : Shape := ⟨1, ![1]⟩
abbrev S16384x1 : Shape := ⟨2, ![16384, 1]⟩
abbrev S16384 : Shape := ⟨1, ![16384]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8128, .f32⟩
  | .hbm, ⟨2, _⟩ => ⟨S128, .f32⟩
  | .hbm, ⟨3, _⟩ => ⟨S8128, .i32⟩
  | .hbm, ⟨4, _⟩ => ⟨S8128, .i32⟩
  | .hbm, ⟨5, _⟩ => ⟨S_, .i32⟩
  | .hbm, ⟨6, _⟩ => ⟨S8128, .i32⟩
  | .hbm, ⟨7, _⟩ => ⟨S8128, .i32⟩
  | .hbm, ⟨8, _⟩ => ⟨S8128, .f32⟩
  | .hbm, ⟨9, _⟩ => ⟨S_, .i32⟩
  | .hbm, ⟨10, _⟩ => ⟨S16384x128, .f32⟩
  | .hbm, ⟨11, _⟩ => ⟨S_, .i32⟩
  | .hbm, ⟨12, _⟩ => ⟨S_, .i1⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S16384x1, .f32⟩
  | .hbm, ⟨35, _⟩ => ⟨S16384, .f32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S16384x1, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S16384, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1, .i32⟩
  | .hbm, ⟨67, _⟩ => ⟨S16384x128, .f32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1, .i32⟩
  | .hbm, ⟨74, _⟩ => ⟨S16384x128, .f32⟩
  | .hbm, ⟨75, _⟩ => ⟨S_, .i32⟩
  | .hbm, ⟨76, _⟩ => ⟨S_, .i32⟩
  | .hbm, ⟨77, _⟩ => ⟨S1x128, .f32⟩
  | .hbm, ⟨78, _⟩ => ⟨S16384x128, .f32⟩
  | .hbm, ⟨79, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_while0c_c_6 : Ref sig .tc := ⟨.hbm, 11, rfl⟩
abbrev main_while0c_v4 : Ref sig .tc := ⟨.hbm, 12, rfl⟩
abbrev main_while0b_call0_v0 : Ref sig .tc := ⟨.hbm, 13, rfl⟩
abbrev main_while0b_v4 : Ref sig .tc := ⟨.hbm, 14, rfl⟩
abbrev main_while0b_call1_v0 : Ref sig .tc := ⟨.hbm, 15, rfl⟩
abbrev main_while0b_v5 : Ref sig .tc := ⟨.hbm, 16, rfl⟩
abbrev main_while0b_call2_v0 : Ref sig .tc := ⟨.hbm, 17, rfl⟩
abbrev main_while0b_v6 : Ref sig .tc := ⟨.hbm, 18, rfl⟩
abbrev main_while0b_v7 : Ref sig .tc := ⟨.hbm, 19, rfl⟩
abbrev main_while0b_v8 : Ref sig .tc := ⟨.hbm, 20, rfl⟩
abbrev main_while0b_c_6 : Ref sig .tc := ⟨.hbm, 21, rfl⟩
abbrev main_while0b_c_7 : Ref sig .tc := ⟨.hbm, 22, rfl⟩
abbrev main_while0b_v9 : Ref sig .tc := ⟨.hbm, 23, rfl⟩
abbrev main_while0b_c_8 : Ref sig .tc := ⟨.hbm, 24, rfl⟩
abbrev main_while0b_c_9 : Ref sig .tc := ⟨.hbm, 25, rfl⟩
abbrev main_while0b_v10 : Ref sig .tc := ⟨.hbm, 26, rfl⟩
abbrev main_while0b_c_10 : Ref sig .tc := ⟨.hbm, 27, rfl⟩
abbrev main_while0b_v11 : Ref sig .tc := ⟨.hbm, 28, rfl⟩
abbrev main_while0b_c_11 : Ref sig .tc := ⟨.hbm, 29, rfl⟩
abbrev main_while0b_v12 : Ref sig .tc := ⟨.hbm, 30, rfl⟩
abbrev main_while0b_c_12 : Ref sig .tc := ⟨.hbm, 31, rfl⟩
abbrev main_while0b_v13 : Ref sig .tc := ⟨.hbm, 32, rfl⟩
abbrev main_while0b_v14 : Ref sig .tc := ⟨.hbm, 33, rfl⟩
abbrev main_while0b_v15 : Ref sig .tc := ⟨.hbm, 34, rfl⟩
abbrev main_while0b_v16 : Ref sig .tc := ⟨.hbm, 35, rfl⟩
abbrev main_while0b_c_13 : Ref sig .tc := ⟨.hbm, 36, rfl⟩
abbrev main_while0b_c_14 : Ref sig .tc := ⟨.hbm, 37, rfl⟩
abbrev main_while0b_v17 : Ref sig .tc := ⟨.hbm, 38, rfl⟩
abbrev main_while0b_c_15 : Ref sig .tc := ⟨.hbm, 39, rfl⟩
abbrev main_while0b_c_16 : Ref sig .tc := ⟨.hbm, 40, rfl⟩
abbrev main_while0b_v18 : Ref sig .tc := ⟨.hbm, 41, rfl⟩
abbrev main_while0b_c_17 : Ref sig .tc := ⟨.hbm, 42, rfl⟩
abbrev main_while0b_v19 : Ref sig .tc := ⟨.hbm, 43, rfl⟩
abbrev main_while0b_c_18 : Ref sig .tc := ⟨.hbm, 44, rfl⟩
abbrev main_while0b_v20 : Ref sig .tc := ⟨.hbm, 45, rfl⟩
abbrev main_while0b_c_19 : Ref sig .tc := ⟨.hbm, 46, rfl⟩
abbrev main_while0b_v21 : Ref sig .tc := ⟨.hbm, 47, rfl⟩
abbrev main_while0b_v22 : Ref sig .tc := ⟨.hbm, 48, rfl⟩
abbrev main_while0b_v23 : Ref sig .tc := ⟨.hbm, 49, rfl⟩
abbrev main_while0b_v24 : Ref sig .tc := ⟨.hbm, 50, rfl⟩
abbrev main_while0b_v25 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_c_20 : Ref sig .tc := ⟨.hbm, 61, rfl⟩
abbrev main_while0b_v35 : Ref sig .tc := ⟨.hbm, 62, rfl⟩
abbrev main_while0b_c_21 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_c_22 : Ref sig .tc := ⟨.hbm, 68, rfl⟩
abbrev main_while0b_v40 : Ref sig .tc := ⟨.hbm, 69, rfl⟩
abbrev main_while0b_c_23 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_c_24 : Ref sig .tc := ⟨.hbm, 75, rfl⟩
abbrev main_while0b_v45 : Ref sig .tc := ⟨.hbm, 76, rfl⟩
abbrev main_v1 : Ref sig .tc := ⟨.hbm, 77, rfl⟩
abbrev main_v2 : Ref sig .tc := ⟨.hbm, 78, rfl⟩
abbrev main_v3 : Ref sig .tc := ⟨.hbm, 79, rfl⟩

abbrev nD : Nat := 1
abbrev τ : Topo := Topo.v7x

variable {F : FTy → Type} [FloatOps F]

abbrev main_while0_count : Scf.Loop 32 := ⟨0#32, 8128#32, 1#32⟩
-- ==== Proof.IdLoop1.lean ====
module

public import proofs.«01_k».proof.Proof.Gen.KernelIdeal.Loops
public import proofs.«01_k».proof.Proof.Gen.KernelIdeal.Frame
public import Idealize.ShloMosaic.Lib.Claim
public import Idealize.ShloMosaic.Lib.VecWindow
public import Idealize.ShloMosaic.Lib.Pipeline.Value
@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Shifting a word right by seven divides it by 128. -/
theorem shrui_toNat (w : BitVec 32) : (Scalar.shrui w 7#32).toNat = w.toNat / 128 := by
  unfold Scalar.shrui IntOp.shrui
  simp [BitVec.toNat_ushiftRight, Nat.shiftRight_eq_div_pow]

/-- A word below 16256 names a row of the table that has a next row. -/
theorem row_inb (w : BitVec 32) (h : w.toNat < 16256) : ∀ a, (k0_off2 w) a + S2x128.size a ≤ S128x128.size a := by
  intro a
  match a with
  | ⟨0, _⟩ =>
    show (Scalar.shrui w 7#32).toNat + 2 ≤ 128
    rw [shrui_toNat]; omega
  | ⟨1, _⟩ => show 0 + 128 ≤ 128; omega

/-- The table of layer starts at entry `n`. -/
def wordAt (X : S256.Idx → Elt F .i32) (n : ℕ) : BitVec 32 := X (fun a => match a with
  | ⟨0, _⟩ => ⟨n % 256, Nat.mod_lt n (show 0 < 256 by decide)⟩)

/-- The two table rows a start `w` reaches. -/
def rowTwo (X : S128x128.Idx → Elt F .f32) (w : BitVec 32) : Vec F S2x128 .f32 := fun y =>
  X (fun a => match a with
    | ⟨0, _⟩ => ⟨(w.toNat / 128 + (y 0).val) % 128, Nat.mod_lt _ (by decide)⟩
    | ⟨1, _⟩ => y 1)

/-- One row of the layer table: the 128 entries from the start of layer row `n`. -/
def tabRow (v11 : IVec S1x128 32) (X1 : S256.Idx → Elt F .i32) (X8 : S128x128.Idx → Elt F .f32) (n : ℕ) : FVec F S1x128 .f32 :=
  k0_pay5 v11 (wordAt X1 n) (rowTwo X8 (wordAt X1 n))

/-- A load of one entry of the table of starts. -/
theorem readAt_word (arg1 : Memref sig .tc .smem S256 .i32) (X1 : BufTy.Contents (Elt F) arg1.view.ty) (off : Fin 1 → ℕ)
    (h : ∀ a, off a + S1.size a ≤ S256.size a) (n : ℕ) (hn : off 0 = n) (hlt : n < 256) (y) :
    arg1.view.readAt (Elt F) (Rect.unit (s := S256) off S1.size h).toLoadRect X1 y = wordAt (F := F) (arg1.view.read (Elt F) X1) n := by
  refine congrArg (arg1.view.read (Elt F) X1) (funext fun a => Fin.ext ?_)
  match a with
  | ⟨0, _⟩ =>
    show off 0 + 1 * (y 0).val = n % 256
    have : (y 0).val < 1 := (y 0).isLt
    omega

/-- A load of two rows at the row a start names. -/
theorem readAt_rows (arg8 : Memref sig .tc .vmem S128x128 .f32) (X8 : BufTy.Contents (Elt F) arg8.view.ty) (w : BitVec 32)
    (hw : w.toNat < 16256) (h : ∀ a, (k0_off2 w) a + S2x128.size a ≤ S128x128.size a) :
    arg8.view.readAt (Elt F) (Rect.unit (s := S128x128) (k0_off2 w) S2x128.size h).toLoadRect X8 = rowTwo (arg8.view.read (Elt F) X8) w := by
  funext y
  refine congrArg (arg8.view.read (Elt F) X8) (funext fun a => Fin.ext ?_)
  match a with
  | ⟨0, _⟩ =>
    show (Scalar.shrui w 7#32).toNat + 1 * (y 0).val = (w.toNat / 128 + (y 0).val) % 128
    have : (y 0).val < 2 := (y 0).isLt
    rw [shrui_toNat]; omega
  | ⟨1, _⟩ => show 0 + 1 * (y 1).val = (y 1).val; omega

/-- One row of a trip, from its two loads. -/
theorem row_of (arg1 : Memref sig .tc .smem S256 .i32) (arg8 : Memref sig .tc .vmem S128x128 .f32) (v11 : IVec S1x128 32)
    (X1 : BufTy.Contents (Elt F) arg1.view.ty) (X8 : BufTy.Contents (Elt F) arg8.view.ty) (off : Fin 1 → ℕ)
    (h : ∀ a, off a + S1.size a ≤ S256.size a) (n : ℕ) (hn : off 0 = n) (hlt : n < 256) (y)
    (hw : (show BitVec 32 from arg1.view.readAt (Elt F) (Rect.unit (s := S256) off S1.size h).toLoadRect X1 y).toNat < 16256)
    (h2 : ∀ a, (k0_off2 (arg1.view.readAt (Elt F) (Rect.unit (s := S256) off S1.size h).toLoadRect X1 y)) a + S2x128.size a ≤ S128x128.size a) :
    k0_pay5 v11 (arg1.view.readAt (Elt F) (Rect.unit (s := S256) off S1.size h).toLoadRect X1 y)
        (arg8.view.readAt (Elt F) (Rect.unit (s := S128x128) (k0_off2 (arg1.view.readAt (Elt F) (Rect.unit (s := S256) off S1.size h).toLoadRect X1 y)) S2x128.size h2).toLoadRect X8)
      = tabRow v11 (arg1.view.read (Elt F) X1) (arg8.view.read (Elt F) X8) n := by
  have e := readAt_word arg1 X1 off h n hn hlt y
  rw [readAt_rows arg8 X8 _ hw h2]
  unfold tabRow
  rw [← e]

/-- Sixteen rows of the layer table, from row `16 n`. -/
def tabRows (v11 : IVec S1x128 32) (X1 : S256.Idx → Elt F .i32) (X8 : S128x128.Idx → Elt F .f32) (n : ℕ) : FVec F S16x128 .f32 :=
  fun y => tabRow v11 X1 X8 (16 * n + (y 0).val) (fun a => match a with
    | ⟨0, _⟩ => ⟨0, show 0 < 1 by decide⟩
    | ⟨1, _⟩ => y 1)

/-- The sixteen rows put together. -/
theorem tabRows_eq (v11 : IVec S1x128 32) (X1 : S256.Idx → Elt F .i32) (X8 : S128x128.Idx → Elt F .f32) (n : ℕ) (h) :
    concatenate S16x128 0 [⟨S1x128, tabRow v11 X1 X8 (16 * n + 0)⟩, ⟨S1x128, tabRow v11 X1 X8 (16 * n + 1)⟩, ⟨S1x128, tabRow v11 X1 X8 (16 * n + 2)⟩, ⟨S1x128, tabRow v11 X1 X8 (16 * n + 3)⟩, ⟨S1x128, tabRow v11 X1 X8 (16 * n + 4)⟩, ⟨S1x128, tabRow v11 X1 X8 (16 * n + 5)⟩, ⟨S1x128, tabRow v11 X1 X8 (16 * n + 6)⟩, ⟨S1x128, tabRow v11 X1 X8 (16 * n + 7)⟩, ⟨S1x128, tabRow v11 X1 X8 (16 * n + 8)⟩, ⟨S1x128, tabRow v11 X1 X8 (16 * n + 9)⟩, ⟨S1x128, tabRow v11 X1 X8 (16 * n + 10)⟩, ⟨S1x128, tabRow v11 X1 X8 (16 * n + 11)⟩, ⟨S1x128, tabRow v11 X1 X8 (16 * n + 12)⟩, ⟨S1x128, tabRow v11 X1 X8 (16 * n + 13)⟩, ⟨S1x128, tabRow v11 X1 X8 (16 * n + 14)⟩, ⟨S1x128, tabRow v11 X1 X8 (16 * n + 15)⟩] h = tabRows v11 X1 X8 n := by
  funext y
  exact concatenate_ofFn_unit_apply (t := S16x128) (s₁ := S1x128) 0 (N := 16) (fun c => tabRow v11 X1 X8 (16 * n + c.val)) h rfl rfl y (y 0) rfl _
    (fun b hb => by
      match b with
      | ⟨0, _⟩ => exact absurd rfl hb
      | ⟨1, _⟩ => rfl)

/-- The whole layer table. -/
def tab (v11 : IVec S1x128 32) (X1 : S256.Idx → Elt F .i32) (X8 : S128x128.Idx → Elt F .f32) : S256x128.Idx → Elt F .f32 :=
  fun y => tabRow v11 X1 X8 (y 0).val (fun a => match a with
    | ⟨0, _⟩ => ⟨0, show 0 < 1 by decide⟩
    | ⟨1, _⟩ => y 1)

/-- Writing sixteen further rows extends the part of the table that is in place. -/
theorem tab_step (arg9 : Memref sig .tc .vmem S256x128 .f32) (f : BufTy.Contents (Elt F) arg9.view.ty) (v11 : IVec S1x128 32)
    (X1 : S256.Idx → Elt F .i32) (X8 : S128x128.Idx → Elt F .f32) (k : Fin k0_t1_loop.trips) (h)
    (hf : ∀ y : S256x128.Idx, (y 0).val < 16 * k.val → arg9.view.read (Elt F) f y = tab v11 X1 X8 y) :
    ∀ y : S256x128.Idx, (y 0).val < 16 * (k.val + 1) →
      arg9.view.read (Elt F) (arg9.view.writes (Elt F) f [⟨Rect.unit (s := S256x128) (k0_off33 k) S16x128.size h, tabRows v11 X1 X8 k.val⟩]) y = tab v11 X1 X8 y := by
  intro y hy
  have e0 : (k0_off33 k) 0 = 16 * k.val := (by decide : ∀ k : Fin 16, (k0_off33 k) 0 = 16 * k.val) k
  have e1 : (k0_off33 k) 1 = 0 := rfl
  have hy1 : (y 1).val < 128 := (y 1).isLt
  by_cases hlt : (y 0).val < 16 * k.val
  · rw [← hf y hlt]
    refine View.read_writes_cons_unit_of_not_mem arg9.view f _ _ [] y rfl 0 ?_
    left; rw [e0]; exact hlt
  · refine (View.read_writes_cons_unit_of_mem arg9.view f _ _ [] y (fun a => match a with
      | ⟨0, _⟩ => ⟨(y 0).val - 16 * k.val, show (y 0).val - 16 * k.val < 16 by omega⟩
      | ⟨1, _⟩ => y 1) rfl fun a => ?_).trans ?_
    · match a with
      | ⟨0, _⟩ => show (y 0).val = (k0_off33 k) 0 + ((y 0).val - 16 * k.val); rw [e0]; omega
      | ⟨1, _⟩ => show (y 1).val = (k0_off33 k) 1 + (y 1).val; rw [e1]; omega
    · show tabRow v11 X1 X8 (16 * k.val + ((y 0).val - 16 * k.val)) _ = tabRow v11 X1 X8 (y 0).val _
      rw [show 16 * k.val + ((y 0).val - 16 * k.val) = (y 0).val by omega]

section Trip

variable (𝒱 : Variants) (c : Dev nD) (bd : Option 𝒱.V) (i : grid0.Coords) (arg1 : Memref sig .tc .smem S256 .i32) (harg1 : arg1.IsWhole) (arg2 : Memref sig .tc .vmem S64x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8x128x128 .f32) (harg12 : arg12.IsWhole) (arg13 : Memref sig .tc .vmem S4x128x128 .f32) (harg13 : arg13.IsWhole) (arg14 : Memref sig .tc .vmem S128x128 .f32) (harg14 : arg14.IsWhole) (k0_h1 : k0_cond1 i = 1#1) (v11 : IVec S1x128 32)

/-- One trip of the first loop writes sixteen rows of the layer table. -/
theorem trip1 (X1 : BufTy.Contents (Elt F) arg1.view.ty) (X8 : BufTy.Contents (Elt F) arg8.view.ty)
    (f9 : BufTy.Contents (Elt F) arg9.view.ty) (E : Set ℕ)
    (hX : ∀ (r : Rect S256) y, (show BitVec 32 from arg1.view.readAt (Elt F) r X1 y).toNat < 16256) (k : Fin k0_t1_loop.trips) :
    (iprop((arg1.view.loc (c : Thread nD τ) ↦[arg1.view.set]{fullShare} X1) ∗ (arg8.view.loc (c : Thread nD τ) ↦[arg8.view.set]{fullShare} X8) ∗ (arg9.view.loc (c : Thread nD τ) ↦[arg9.view.set]{fullShare} f9)) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k0_h1 v11 k PUnit.unit)
        (fun _ => iprop((arg1.view.loc (c : Thread nD τ) ↦[arg1.view.set]{fullShare} X1) ∗ (arg8.view.loc (c : Thread nD τ) ↦[arg8.view.set]{fullShare} X8) ∗ (∃ f, (arg9.view.loc (c : Thread nD τ) ↦[arg9.view.set]{fullShare} f)
          ∗ ⌜f = arg9.view.writes (Elt F) f9 [⟨Rect.unit (s := S256x128) (k0_off33 k) S16x128.size (k0_off33_inb i k k0_h1), tabRows v11 (arg1.view.read (Elt F) X1) (arg8.view.read (Elt F) X8) k.val⟩]⌝))) := by
  have hk : k.val < 16 := k.isLt
  unfold k0_t1_body
  iintro ⟨H1, H8, H9⟩
  sl_exec (disch := exact fun _ => row_inb _ (hX _ _))
  sl_step
  isplitl [H1]; · iexact H1
  isplitl [H8]; · iexact H8
  iexists _; isplitl [H9]; · iexact H9
  ipureintro
  delta trip1.sl.v365
  have e0 : trip1.sl.v139 i arg1 arg8 k0_h1 v11 X1 X8 hX k = tabRow v11 (arg1.view.read (Elt F) X1) (arg8.view.read (Elt F) X8) (16 * k.val + 0) :=
    row_of arg1 arg8 v11 X1 X8 (k0_off1 k) (k0_off1_inb i k k0_h1) _ ((by decide : ∀ k : Fin 16, (k0_off1 k) 0 = 16 * k.val + 0) k) (by omega) _ (hX _ _) _
  have e1 : trip1.sl.v154 i arg1 arg8 k0_h1 v11 X1 X8 hX k = tabRow v11 (arg1.view.read (Elt F) X1) (arg8.view.read (Elt F) X8) (16 * k.val + 1) :=
    row_of arg1 arg8 v11 X1 X8 (k0_off3 k) (k0_off3_inb i k k0_h1) _ ((by decide : ∀ k : Fin 16, (k0_off3 k) 0 = 16 * k.val + 1) k) (by omega) _ (hX _ _) _
  have e2 : trip1.sl.v169 i arg1 arg8 k0_h1 v11 X1 X8 hX k = tabRow v11 (arg1.view.read (Elt F) X1) (arg8.view.read (Elt F) X8) (16 * k.val + 2) :=
    row_of arg1 arg8 v11 X1 X8 (k0_off5 k) (k0_off5_inb i k k0_h1) _ ((by decide : ∀ k : Fin 16, (k0_off5 k) 0 = 16 * k.val + 2) k) (by omega) _ (hX _ _) _
  have e3 : trip1.sl.v184 i arg1 arg8 k0_h1 v11 X1 X8 hX k = tabRow v11 (arg1.view.read (Elt F) X1) (arg8.view.read (Elt F) X8) (16 * k.val + 3) :=
    row_of arg1 arg8 v11 X1 X8 (k0_off7 k) (k0_off7_inb i k k0_h1) _ ((by decide : ∀ k : Fin 16, (k0_off7 k) 0 = 16 * k.val + 3) k) (by omega) _ (hX _ _) _
  have e4 : trip1.sl.v199 i arg1 arg8 k0_h1 v11 X1 X8 hX k = tabRow v11 (arg1.view.read (Elt F) X1) (arg8.view.read (Elt F) X8) (16 * k.val + 4) :=
    row_of arg1 arg8 v11 X1 X8 (k0_off9 k) (k0_off9_inb i k k0_h1) _ ((by decide : ∀ k : Fin 16, (k0_off9 k) 0 = 16 * k.val + 4) k) (by omega) _ (hX _ _) _
  have e5 : trip1.sl.v214 i arg1 arg8 k0_h1 v11 X1 X8 hX k = tabRow v11 (arg1.view.read (Elt F) X1) (arg8.view.read (Elt F) X8) (16 * k.val + 5) :=
    row_of arg1 arg8 v11 X1 X8 (k0_off11 k) (k0_off11_inb i k k0_h1) _ ((by decide : ∀ k : Fin 16, (k0_off11 k) 0 = 16 * k.val + 5) k) (by omega) _ (hX _ _) _
  have e6 : trip1.sl.v229 i arg1 arg8 k0_h1 v11 X1 X8 hX k = tabRow v11 (arg1.view.read (Elt F) X1) (arg8.view.read (Elt F) X8) (16 * k.val + 6) :=
    row_of arg1 arg8 v11 X1 X8 (k0_off13 k) (k0_off13_inb i k k0_h1) _ ((by decide : ∀ k : Fin 16, (k0_off13 k) 0 = 16 * k.val + 6) k) (by omega) _ (hX _ _) _
  have e7 : trip1.sl.v244 i arg1 arg8 k0_h1 v11 X1 X8 hX k = tabRow v11 (arg1.view.read (Elt F) X1) (arg8.view.read (Elt F) X8) (16 * k.val + 7) :=
    row_of arg1 arg8 v11 X1 X8 (k0_off15 k) (k0_off15_inb i k k0_h1) _ ((by decide : ∀ k : Fin 16, (k0_off15 k) 0 = 16 * k.val + 7) k) (by omega) _ (hX _ _) _
  have e8 : trip1.sl.v259 i arg1 arg8 k0_h1 v11 X1 X8 hX k = tabRow v11 (arg1.view.read (Elt F) X1) (arg8.view.read (Elt F) X8) (16 * k.val + 8) :=
    row_of arg1 arg8 v11 X1 X8 (k0_off17 k) (k0_off17_inb i k k0_h1) _ ((by decide : ∀ k : Fin 16, (k0_off17 k) 0 = 16 * k.val + 8) k) (by omega) _ (hX _ _) _
  have e9 : trip1.sl.v274 i arg1 arg8 k0_h1 v11 X1 X8 hX k = tabRow v11 (arg1.view.read (Elt F) X1) (arg8.view.read (Elt F) X8) (16 * k.val + 9) :=
    row_of arg1 arg8 v11 X1 X8 (k0_off19 k) (k0_off19_inb i k k0_h1) _ ((by decide : ∀ k : Fin 16, (k0_off19 k) 0 = 16 * k.val + 9) k) (by omega) _ (hX _ _) _
  have e10 : trip1.sl.v289 i arg1 arg8 k0_h1 v11 X1 X8 hX k = tabRow v11 (arg1.view.read (Elt F) X1) (arg8.view.read (Elt F) X8) (16 * k.val + 10) :=
    row_of arg1 arg8 v11 X1 X8 (k0_off21 k) (k0_off21_inb i k k0_h1) _ ((by decide : ∀ k : Fin 16, (k0_off21 k) 0 = 16 * k.val + 10) k) (by omega) _ (hX _ _) _
  have e11 : trip1.sl.v304 i arg1 arg8 k0_h1 v11 X1 X8 hX k = tabRow v11 (arg1.view.read (Elt F) X1) (arg8.view.read (Elt F) X8) (16 * k.val + 11) :=
    row_of arg1 arg8 v11 X1 X8 (k0_off23 k) (k0_off23_inb i k k0_h1) _ ((by decide : ∀ k : Fin 16, (k0_off23 k) 0 = 16 * k.val + 11) k) (by omega) _ (hX _ _) _
  have e12 : trip1.sl.v319 i arg1 arg8 k0_h1 v11 X1 X8 hX k = tabRow v11 (arg1.view.read (Elt F) X1) (arg8.view.read (Elt F) X8) (16 * k.val + 12) :=
    row_of arg1 arg8 v11 X1 X8 (k0_off25 k) (k0_off25_inb i k k0_h1) _ ((by decide : ∀ k : Fin 16, (k0_off25 k) 0 = 16 * k.val + 12) k) (by omega) _ (hX _ _) _
  have e13 : trip1.sl.v334 i arg1 arg8 k0_h1 v11 X1 X8 hX k = tabRow v11 (arg1.view.read (Elt F) X1) (arg8.view.read (Elt F) X8) (16 * k.val + 13) :=
    row_of arg1 arg8 v11 X1 X8 (k0_off27 k) (k0_off27_inb i k k0_h1) _ ((by decide : ∀ k : Fin 16, (k0_off27 k) 0 = 16 * k.val + 13) k) (by omega) _ (hX _ _) _
  have e14 : trip1.sl.v349 i arg1 arg8 k0_h1 v11 X1 X8 hX k = tabRow v11 (arg1.view.read (Elt F) X1) (arg8.view.read (Elt F) X8) (16 * k.val + 14) :=
    row_of arg1 arg8 v11 X1 X8 (k0_off29 k) (k0_off29_inb i k k0_h1) _ ((by decide : ∀ k : Fin 16, (k0_off29 k) 0 = 16 * k.val + 14) k) (by omega) _ (hX _ _) _
  have e15 : trip1.sl.v364 i arg1 arg8 k0_h1 v11 X1 X8 hX k = tabRow v11 (arg1.view.read (Elt F) X1) (arg8.view.read (Elt F) X8) (16 * k.val + 15) :=
    row_of arg1 arg8 v11 X1 X8 (k0_off31 k) (k0_off31_inb i k k0_h1) _ ((by decide : ∀ k : Fin 16, (k0_off31 k) 0 = 16 * k.val + 15) k) (by omega) _ (hX _ _) _
  rw [e0, e1, e2, e3, e4, e5, e6, e7, e8, e9, e10, e11, e12, e13, e14, e15]
  refine congrArg (fun z => arg9.view.writes (Elt F) f9 [⟨Rect.unit (s := S256x128) (k0_off33 k) S16x128.size (k0_off33_inb i k k0_h1), z⟩]) ?_
  exact (shapeCast_self _ _).trans (tabRows_eq v11 _ _ k.val _)

set_option warn.classDefReducibility false in
/-- The first loop: before trip `k` the first `16 k` rows of the layer table are in place. -/
@[sl_loop] def loopInv1 (E : Set ℕ) (X1 : BufTy.Contents (Elt F) arg1.view.ty) (X8 : BufTy.Contents (Elt F) arg8.view.ty)
    (hX : ∀ (r : Rect S256) y, (show BitVec 32 from arg1.view.readAt (Elt F) r X1 y).toNat < 16256) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 k0_h1 v11 where
  inv k _ := iprop((arg1.view.loc (c : Thread nD τ) ↦[arg1.view.set]{fullShare} X1) ∗ (arg8.view.loc (c : Thread nD τ) ↦[arg8.view.set]{fullShare} X8) ∗ (∃ f, (arg9.view.loc (c : Thread nD τ) ↦[arg9.view.set]{fullShare} f)
          ∗ ⌜∀ y : S256x128.Idx, (y 0).val < 16 * k → arg9.view.read (Elt F) f y = tab v11 (arg1.view.read (Elt F) X1) (arg8.view.read (Elt F) X8) y⌝))
  step k acc := by
    iintro ⟨H1, H8, ⟨%f9, H9, %h9⟩⟩
    iapply (wp_wand_r Idealize.ShloMosaic.frame (wpE (defs₀ (F := F)) 𝒱 (c : Thread nD τ) bd) E)
    isplitl [H1 H8 H9]
    · iapply (trip1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v11 X1 X8 f9 E hX k)
      isplitl [H1]; · iexact H1
      isplitl [H8]; · iexact H8
      iexact H9
    · iintro %_ ⟨H1, H8, ⟨%f, H9, %hf⟩⟩
      isplitl [H1]; · iexact H1
      isplitl [H8]; · iexact H8
      iexists _; isplitl [H9]; · iexact H9
      ipureintro
      rw [hf]
      exact tab_step arg9 f9 v11 _ _ k _ h9

end Trip
end Cert.Proof.KI
end
-- ==== Proof.IdLoop2.lean ====
module

public import proofs.«01_k».proof.Proof.Gen.KernelIdeal.Loops
public import proofs.«01_k».proof.Proof.Gen.KernelIdeal.Frame
public import Idealize.ShloMosaic.Lib.Claim
public import Idealize.ShloMosaic.Lib.VecWindow
public import Idealize.ShloMosaic.Lib.Pipeline.Value
@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One layer of plane rotations on eight blocks at once: each row keeps its own lanes scaled by the layer's cosines and
gains its partner lanes (`p` names them) scaled by the layer's signed sines. -/
def layer (p : IVec S8x128x128 32) (q : FVec F S8x128x128 .f32) (cs cp : Vec F S8x128 .f32) : FVec F S8x128x128 .f32 :=
  addf (mulf (broadcastTo S8x128x128 (shapeCast S8x1x128 cs shapeCasts_S8x128_S8x1x128) broadcasts_S8x1x128_S8x128x128) q)
    (mulf (broadcastTo S8x128x128 (shapeCast S8x1x128 cp shapeCasts_S8x128_S8x1x128) broadcasts_S8x1x128_S8x128x128)
      (dynamicGather 2 q (shapeCast S8x128x128 (shapeCast S8x128x128x1
        (select (cmpi .slt p (broadcast S8x128x128 0#32)) (addi p (broadcast S8x128x128 128#32)) p)
        shapeCasts_S8x128x128_S8x128x128x1) shapeCasts_S8x128x128x1_S8x128x128)))

/-- Eight rows of a table of layers: the rows `8 n .. 8 n + 7`. -/
def slab (X : S256x128.Idx → Elt F .f32) (n : ℕ) : Vec F S8x128 .f32 := fun y =>
  X (fun a => match a with
    | ⟨0, _⟩ => ⟨(8 * n + (y 0).val) % 256, Nat.mod_lt _ (by decide)⟩
    | ⟨1, _⟩ => y 1)

/-- A load of eight table rows at the offset the loop computes reads that slab. -/
theorem ld_slab (X : S256x128.Idx → Elt F .f32) (k : Fin k0_t2_loop.trips) (j : ℕ) (hj : j < 8)
    (h : ∀ a, (k0_off34 k (BitVec.ofNat 32 j)) a + S8x128.size a ≤ S256x128.size a) :
    View.ld X (Rect.unit (s := S256x128) (k0_off34 k (BitVec.ofNat 32 j)) S8x128.size h) = slab X (8 * k.val + j) := by
  have hk : k.val < 4 := k.isLt
  have e : (k0_off34 k (BitVec.ofNat 32 j)) 0 = 8 * (8 * k.val + j) := by
    have := (by decide : ∀ (k : Fin 4) (j : Fin 8), (k0_off34 k (BitVec.ofNat 32 j.val)) 0 = 8 * (8 * k.val + j.val))
    exact this k ⟨j, hj⟩
  funext y
  refine congrArg X (funext fun a => Fin.ext ?_)
  match a with
  | ⟨0, _⟩ =>
    show (k0_off34 k (BitVec.ofNat 32 j)) 0 + 1 * (y 0).val = (8 * (8 * k.val + j) + (y 0).val) % 256
    have : (y 0).val < 8 := (y 0).isLt
    rw [e]; omega
  | ⟨1, _⟩ =>
    show 0 + 1 * (y 1).val = (y 1).val
    omega

/-- The eight layers of one trip, layer `8 k` first. -/
def trip2 (CS CP : S256x128.Idx → Elt F .f32) (n : ℕ) (q : FVec F S8x128x128 .f32) : FVec F S8x128x128 .f32 :=
  layer k0_pay43 (layer k0_pay42 (layer k0_pay43 (layer k0_pay42 (layer k0_pay43 (layer k0_pay42 (layer k0_pay43 (layer k0_pay42 q
    (slab CS (8 * n + 0)) (slab CP (8 * n + 0))) (slab CS (8 * n + 1)) (slab CP (8 * n + 1))) (slab CS (8 * n + 2)) (slab CP (8 * n + 2)))
    (slab CS (8 * n + 3)) (slab CP (8 * n + 3))) (slab CS (8 * n + 4)) (slab CP (8 * n + 4))) (slab CS (8 * n + 5)) (slab CP (8 * n + 5)))
    (slab CS (8 * n + 6)) (slab CP (8 * n + 6))) (slab CS (8 * n + 7)) (slab CP (8 * n + 7))

/-- The printed first layer is the layer. -/
theorem pay20_eq (p : IVec S8x128x128 32) (q : Vec F S8x128x128 .f32) (c0 d0 : Vec F S8x128 .f32) : k0_pay20 p q c0 d0 = layer p q c0 d0 := rfl

/-- The printed second and third layers. -/
theorem pay24_eq (p r : IVec S8x128x128 32) (q : FVec F S8x128x128 .f32) (c0 d0 c1 d1 : Vec F S8x128 .f32) :
    k0_pay24 p q (k0_pay21 c0) (k0_pay22 d0) (k0_pay23 r) c1 d1 = layer p (layer r q c0 d0) c1 d1 := rfl

/-- The printed fourth and fifth layers. -/
theorem pay29_eq (p r : IVec S8x128x128 32) (q : FVec F S8x128x128 .f32) (c0 d0 c1 d1 : Vec F S8x128 .f32) :
    k0_pay29 p r q (k0_pay25 c0) (k0_pay26 d0) (k0_pay27 r) (k0_pay28 r) c1 d1 = layer p (layer r q c0 d0) c1 d1 := rfl

/-- The printed sixth and seventh layers. -/
theorem pay33_eq (p r : IVec S8x128x128 32) (q : FVec F S8x128x128 .f32) (c0 d0 c1 d1 : Vec F S8x128 .f32) :
    k0_pay33 p r q (k0_pay30 c0) (k0_pay31 d0) (k0_pay32 r) 128#32 c1 d1 = layer p (layer r q c0 d0) c1 d1 := rfl

/-- The printed eighth layer. -/
theorem pay44_eq (q : FVec F S8x128x128 .f32) (c0 d0 : Vec F S8x128 .f32) :
    k0_pay44 q (k0_pay34 c0) (k0_pay35 d0) k0_pay36 = layer k0_pay43 q c0 d0 :=
  shapeCast_self (layer k0_pay43 q c0 d0) _

/-- What the eight blocks hold after `n` trips. -/
def blocks (CS CP : S256x128.Idx → Elt F .f32) (q : FVec F S8x128x128 .f32) : ℕ → FVec F S8x128x128 .f32
  | 0 => q
  | n + 1 => trip2 CS CP n (blocks CS CP q n)

section Trip

variable (𝒱 : Variants) (c : Dev nD) (bd : Option 𝒱.V) (i : grid0.Coords) (arg1 : Memref sig .tc .smem S256 .i32) (harg1 : arg1.IsWhole) (arg2 : Memref sig .tc .vmem S64x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8x128x128 .f32) (harg12 : arg12.IsWhole) (arg13 : Memref sig .tc .vmem S4x128x128 .f32) (harg13 : arg13.IsWhole) (arg14 : Memref sig .tc .vmem S128x128 .f32) (harg14 : arg14.IsWhole) (k0_h1 : k0_cond1 i = 1#1) (v45 : FVec F S256x128 .f32)

/-- One trip of the second loop leaves its eight layers in the blocks. -/
theorem trip2_read (X10 : BufTy.Contents (Elt F) arg10.view.ty) (X11 : BufTy.Contents (Elt F) arg11.view.ty)
    (f : BufTy.Contents (Elt F) arg12.view.ty) (k : Fin k0_t2_loop.trips) :
    arg12.view.read (Elt F) (arg12.view.writes (Elt F) f (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v45 X10 X11 k f)) = trip2 (arg10.view.read (Elt F) X10) (arg11.view.read (Elt F) X11) k.val (arg12.view.read (Elt F) f) := by
  unfold tripL_k0_t2 trip_k0_t2
  dsimp only
  refine (View.read_writes_full arg12.view f _ _ []).trans ?_
  simp only [trip2]
  rw [← ld_slab (arg10.view.read (Elt F) X10) k 0 (by decide) (k0_off34_inb i k k0_h1 0), ← ld_slab (arg10.view.read (Elt F) X10) k 1 (by decide) (k0_off34_inb i k k0_h1 1),
    ← ld_slab (arg10.view.read (Elt F) X10) k 2 (by decide) (k0_off34_inb i k k0_h1 2), ← ld_slab (arg10.view.read (Elt F) X10) k 3 (by decide) (k0_off34_inb i k k0_h1 3),
    ← ld_slab (arg10.view.read (Elt F) X10) k 4 (by decide) (k0_off34_inb i k k0_h1 4), ← ld_slab (arg10.view.read (Elt F) X10) k 5 (by decide) (k0_off34_inb i k k0_h1 5),
    ← ld_slab (arg10.view.read (Elt F) X10) k 6 (by decide) (k0_off34_inb i k k0_h1 6), ← ld_slab (arg10.view.read (Elt F) X10) k 7 (by decide) (k0_off34_inb i k k0_h1 7)]
  rw [← ld_slab (arg11.view.read (Elt F) X11) k 0 (by decide) (k0_off34_inb i k k0_h1 0), ← ld_slab (arg11.view.read (Elt F) X11) k 1 (by decide) (k0_off34_inb i k k0_h1 1),
    ← ld_slab (arg11.view.read (Elt F) X11) k 2 (by decide) (k0_off34_inb i k k0_h1 2), ← ld_slab (arg11.view.read (Elt F) X11) k 3 (by decide) (k0_off34_inb i k k0_h1 3),
    ← ld_slab (arg11.view.read (Elt F) X11) k 4 (by decide) (k0_off34_inb i k k0_h1 4), ← ld_slab (arg11.view.read (Elt F) X11) k 5 (by decide) (k0_off34_inb i k k0_h1 5),
    ← ld_slab (arg11.view.read (Elt F) X11) k 6 (by decide) (k0_off34_inb i k k0_h1 6), ← ld_slab (arg11.view.read (Elt F) X11) k 7 (by decide) (k0_off34_inb i k k0_h1 7)]
  rw [← View.readAt_full arg12.view f inb_S8x128x128_S8x128x128_0_0_0]
  delta trip_k0_t2.sl.r_9 trip_k0_t2.sl.r_10 trip_k0_t2.sl.r_11 trip_k0_t2.sl.r_8 trip_k0_t2.sl.r_7 trip_k0_t2.sl.r_6 trip_k0_t2.sl.r_5 trip_k0_t2.sl.r_4 trip_k0_t2.sl.r_3 trip_k0_t2.sl.r_2 trip_k0_t2.sl.r_1 trip_k0_t2.sl.r
  rw [pay20_eq, pay24_eq, pay29_eq, pay33_eq, pay44_eq]
  rfl

/-- After `n` trips of the second loop the blocks read as `blocks … n`. -/
theorem loop2_read (X10 : BufTy.Contents (Elt F) arg10.view.ty) (X11 : BufTy.Contents (Elt F) arg11.view.ty)
    (G : BufTy.Contents (Elt F) arg12.view.ty) : ∀ n, n ≤ 4 →
    arg12.view.read (Elt F) (arg12.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v45 X10 X11 G n))
      = blocks (arg10.view.read (Elt F) X10) (arg11.view.read (Elt F) X11) (arg12.view.read (Elt F) G) n
  | 0, _ => rfl
  | n + 1, h => by
    have hs := pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v45 X10 X11 G ⟨n, h⟩
    rw [show n + 1 = (⟨n, h⟩ : Fin k0_t2_loop.trips).val + 1 from rfl, hs, View.writes_append, trip2_read (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_h1 v45]
    rw [loop2_read X10 X11 G n (by omega)]
    rfl

end Trip
end Cert.Proof.KI
end
-- ==== Proof.IdBody.lean ====
module

public import proofs.«01_k».proof.Proof.Gen.KernelIdeal.Loops
public import proofs.«01_k».proof.Proof.Gen.KernelIdeal.Frame
public import Idealize.ShloMosaic.Lib.Claim
public import proofs.«01_k».proof.Proof.IdLoop1
public import proofs.«01_k».proof.Proof.IdLoop2
public import Idealize.ShloMosaic.Lib.Pipeline.ReadBack
public import Idealize.ShloMosaic.Lib.Pipeline.Value
@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The product of two blocks. -/
def mm (a b : FVec F S128x128 .f32) : FVec F S128x128 .f32 :=
  matmul dot_S128x128_S128x128_S128x128_1_0_0_1_n_n (some .fp32) a b (constant S128x128 .f32 0x00000000#32)

/-- One of the eight blocks. -/
def block (q : FVec F S8x128x128 .f32) (n : Fin 8) : FVec F S128x128 .f32 := fun y => q (fun a => match a with
  | ⟨0, _⟩ => n
  | ⟨1, _⟩ => y 0
  | ⟨2, _⟩ => y 1)

/-- The product of the eight blocks, taken as a balanced tree. -/
def tree (q : FVec F S8x128x128 .f32) : FVec F S128x128 .f32 :=
  mm (mm (mm (block q 0) (block q 1)) (mm (block q 2) (block q 3))) (mm (mm (block q 4) (block q 5)) (mm (block q 6) (block q 7)))

/-- The lanes' own numbers. -/
def lanes : IVec S1x128 32 := iota .tc S1x128 32 [1] iota_S1x128_d1_w32

/-- The matrix the first grid step builds from the starts, the angles and the two layer masks. -/
def qmat (x1 : S256.Idx → Elt F .i32) (x2 : Vec F S64x128 .f32) (x3 x4 : Vec F S256x128 .f32) : FVec F S128x128 .f32 :=
  tree (blocks (k0_pay39 (tab lanes x1 (k0_pay37 x2)) x3) (k0_pay40 (tab lanes x1 (k0_pay37 x2)) x3 x4) k0_pay41 4)

/-- A block without its leading unit axis. -/
def flat (v : Vec F S1x128x128 .f32) : FVec F S128x128 .f32 := shapeCast S128x128 v shapeCasts_S1x128x128_S128x128

/-- A block with a leading unit axis. -/
def stack (v : FVec F S128x128 .f32) : FVec F S1x128x128 .f32 := shapeCast S1x128x128 v shapeCasts_S128x128_S1x128x128

/-- The unit axis comes and goes freely. -/
theorem flat_stack (v : FVec F S128x128 .f32) : flat (stack v) = v := shapeCast_shapeCast v _ _

/-- The first of the four products of neighbours. -/
theorem pay45_mm (a b : Vec F S1x128x128 .f32) : k0_pay45 a b = stack (mm (flat a) (flat b)) := rfl

/-- The second of the four products of neighbours. -/
theorem pay46_mm (a b : Vec F S1x128x128 .f32) : k0_pay46 a b = stack (mm (flat a) (flat b)) := rfl

/-- The third of the four products of neighbours. -/
theorem pay47_mm (a b : Vec F S1x128x128 .f32) : k0_pay47 a b = stack (mm (flat a) (flat b)) := rfl

/-- The last of the four products of neighbours. -/
theorem pay48_mm (a b : Vec F S1x128x128 .f32) : k0_pay48 a b = stack (mm (flat a) (flat b)) := rfl

/-- A product read back is flattened. -/
theorem pay49_flat (a : Vec F S1x128x128 .f32) : k0_pay49 a = flat a := rfl

/-- The first product of products. -/
theorem pay1_mm (a : FVec F S128x128 .f32) (b : Vec F S1x128x128 .f32) : k0_pay1 a b = stack (mm a (flat b)) := rfl

/-- The second product of products. -/
theorem pay2_mm (a b : Vec F S1x128x128 .f32) : k0_pay2 a b = stack (mm (flat a) (flat b)) := rfl

/-- The last product is stored as it is. -/
theorem pay3_mm (a b : Vec F S1x128x128 .f32) : k0_pay3 a b = mm (flat a) (flat b) := shapeCast_self _ _

/-- A load of block `n` reads that block. -/
theorem flat_ld (q : FVec F S8x128x128 .f32) (n : Fin 8) (h : ∀ a, (![n.val, 0, 0] : Fin 3 → ℕ) a + S1x128x128.size a ≤ S8x128x128.size a) :
    flat (View.ld q (Rect.unit (s := S8x128x128) ![n.val, 0, 0] S1x128x128.size h)) = block q n := by
  funext y
  refine (shapeCast_dropUnit_apply ![128, 128] _ shapeCasts_S1x128x128_S128x128 y).trans (congrArg q (funext fun a => Fin.ext ?_))
  match a with
  | ⟨0, _⟩ => exact Nat.add_zero _
  | ⟨1, _⟩ => show 0 + 1 * (y 0).val = (y 0).val; omega
  | ⟨2, _⟩ => show 0 + 1 * (y 1).val = (y 1).val; omega

section Body

variable (c : Dev nD) (E : Set ℕ) (i : grid0.Coords) (arg1 : Memref sig .tc .smem S256 .i32) (harg1 : arg1.IsWhole) (arg2 : Memref sig .tc .vmem S64x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S8192x128 .f32) (harg5 : arg5.IsWhole) (arg6 : Memref sig .tc .vmem S1x128 .f32) (harg6 : arg6.IsWhole) (arg7 : Memref sig .tc .vmem S8192x128 .f32) (harg7 : arg7.IsWhole) (arg8 : Memref sig .tc .vmem S128x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S8x128x128 .f32) (harg12 : arg12.IsWhole) (arg13 : Memref sig .tc .vmem S4x128x128 .f32) (harg13 : arg13.IsWhole) (arg14 : Memref sig .tc .vmem S128x128 .f32) (harg14 : arg14.IsWhole)
  (x1 : S256.Idx → Elt F .i32) (x2 : Vec F S64x128 .f32) (x3 : Vec F S256x128 .f32) (x4 : Vec F S256x128 .f32) (x5 : Vec F S8192x128 .f32) (x6 : Vec F S1x128 .f32)

/-- The first grid step builds the matrix and multiplies its tile by it. -/
theorem sound_first (hc : k0_cond1 i = 1#1) (hx : ∀ y, (show BitVec 32 from x1 y).toNat < 16256) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay4 x5 (qmat x1 x2 x3 x4) x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare (qmat x1 x2 x3 x4)) -∗ K ⟨⟩))
      ⊢ wp frame (wpE (defs₀ (F := F)) Variants.none c none) E (cc0__kernel_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kernel_body_eq_skeleton]; unfold cc0__kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf1 hf2 hf3 hf4 hf5 hf6
  have hX : ∀ (r : Rect S256) y, (show BitVec 32 from arg1.view.readAt (Elt F) r f1 y).toNat < 16256 := fun r y => hx _
  sl_exec (disch := first | exact hc | exact hX)
  have hQ : ∀ G, arg14.view.read (Elt F) (arg14.view.writes (Elt F) G (sound_first.sl.H14_1 (F := F) c i arg1 harg1 arg2 harg2 arg3 harg3 arg4 harg4 arg5 harg5 arg6 harg6 arg7 harg7 arg8 harg8 arg9 harg9 arg10 harg10 arg11 harg11 arg12 harg12 arg13 harg13 arg14 harg14 hc f3 f4 fL0))
      = qmat (arg1.view.read (Elt F) f1) (arg2.view.read (Elt F) f2) (arg3.view.read (Elt F) f3) (arg4.view.read (Elt F) f4) := by
    intro G
    delta sound_first.sl.H14_1 sound_first.sl.v118 sound_first.sl.v116 sound_first.sl.H12_2 sound_first.sl.v110 sound_first.sl.v108 sound_first.sl.r_1 sound_first.sl.v102 sound_first.sl.v100 sound_first.sl.H13_4 sound_first.sl.v94 sound_first.sl.v92 sound_first.sl.v86 sound_first.sl.v84 sound_first.sl.v78 sound_first.sl.v76 sound_first.sl.v70 sound_first.sl.v68
    have hT : arg9.view.read (Elt F) fL0 = tab lanes (arg1.view.read (Elt F) f1) (k0_pay37 (arg2.view.read (Elt F) f2)) := by
      funext y
      refine (hL3 y (show (y 0).val < 256 from (y 0).isLt)).trans ?_
      delta sound_first.sl.H8_1
      rw [View.read_writes_full arg8.view _ _ _ [], View.readAt_full]
      rfl
    generalize hL : pb_k0_t2 (F := F) _ _ _ _ _ _ _ _ _ _ _ _ _ _ _ _ _ _ _ _ _ _ _ _ _ _ _ _ _ _ _ _  _ _ _ _ _ _ ++ sound_first.sl.H12_1 = L
    have hq : arg12.view.read (Elt F) (arg12.view.writes (Elt F) arg12.view.junk L)
        = blocks (k0_pay39 (arg9.view.read (Elt F) fL0) (arg3.view.read (Elt F) f3)) (k0_pay40 (arg9.view.read (Elt F) fL0) (arg3.view.read (Elt F) f3) (arg4.view.read (Elt F) f4)) k0_pay41 4 := by
      subst hL
      rw [View.writes_append]
      refine (loop2_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 hc _ _ _ _ 4 le_rfl).trans ?_
      delta sound_first.sl.H10_1 sound_first.sl.H11_1 sound_first.sl.H12_1 sound_first.sl.r
      rw [View.read_writes_full arg10.view _ _ _ [], View.read_writes_full arg11.view _ _ _ [], View.read_writes_full arg12.view _ _ _ [], View.readAt_full, View.readAt_full, View.readAt_full]
    have hs : ∀ (n : Fin 8) h, flat (arg12.view.readCov L (Rect.unit (s := S8x128x128) ![n.val, 0, 0] S1x128x128.size h).toLoadRect)
        = block (blocks (k0_pay39 (arg9.view.read (Elt F) fL0) (arg3.view.read (Elt F) f3)) (k0_pay40 (arg9.view.read (Elt F) fL0) (arg3.view.read (Elt F) f3) (arg4.view.read (Elt F) f4)) k0_pay41 4) n :=
      fun n h => (congrArg (fun X => flat (View.ld X (Rect.unit (s := S8x128x128) ![n.val, 0, 0] S1x128x128.size h))) hq).trans (flat_ld _ n h)
    refine (View.read_writes_full arg14.view G _ _ []).trans ?_
    simp (disch := decide) only [↓ View.readCov_skip, ↓ View.readCov_cons_toLoadRect, pay45_mm, pay46_mm, pay47_mm, pay48_mm, pay49_flat, pay1_mm, pay2_mm, pay3_mm, flat_stack]
    rw [hT] at hs
    exact congrArg₂ mm (congrArg₂ mm (congrArg₂ mm (hs 0 _) (hs 1 _)) (congrArg₂ mm (hs 2 _) (hs 3 _))) (congrArg₂ mm (congrArg₂ mm (hs 4 _) (hs 5 _)) (congrArg₂ mm (hs 6 _) (hs 7 _)))
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    delta sound_first.sl.v4
    refine (View.read_writes_full arg7.view f7 _ _ []).trans ?_
    rw [View.readAt_full, View.readAt_full]
    exact congrArg (fun q => k0_pay4 (arg5.view.read (Elt F) f5) q (arg6.view.read (Elt F) f6)) ((View.readAt_full arg14.view _ _).trans (hQ _))
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  iexists _; isplitr; swap; · iexact H14
  ipureintro
  exact hQ _

/-- A later grid step multiplies its tile by the matrix it finds. -/
theorem sound_rest (hc : ¬ k0_cond1 i = 1#1) (q : Vec F S128x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare q ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay4 x5 q x6) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare q) -∗ K ⟨⟩))
      ⊢ wp frame (wpE (defs₀ (F := F)) Variants.none c none) E (cc0__kernel_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kernel_body_eq_skeleton]; unfold cc0__kernel_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, Hk⟩
  subst hf1 hf2 hf3 hf4 hf5 hf6 hf14
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro
    refine (View.read_writes_full arg7.view f7 _ _ []).trans ?_
    rw [View.readAt_full, View.readAt_full, View.readAt_full]
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  iexists _; isplitr; swap; · iexact H14
  ipureintro; rfl

end Body
end Cert.Proof.KI
end
-- ==== Proof.IdEntry.lean ====
module

public import proofs.«01_k».proof.Proof.Gen.KernelIdeal.Loops
public import proofs.«01_k».proof.Proof.Gen.KernelIdeal.Frame
public import Idealize.ShloMosaic.Lib.Claim

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ)

/-- The region finds the layers' starts in the first operand, -/
theorem V_main_c (c : Dev nD) : V m c main_c = fun i => lit0 (S256.rowMajor i) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- the mask of the rotated lanes in the third, -/
theorem V_main_cst (c : Dev nD) : V m c main_cst = fun i => FloatOps.ofBits .f32 (lit1 (S256x128.rowMajor i)) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- the mask of the left lanes in the fourth, -/
theorem V_main_cst_0 (c : Dev nD) : V m c main_cst_0 = fun i => FloatOps.ofBits .f32 (lit2 (S256x128.rowMajor i)) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- the bias as one row in the sixth, -/
theorem V_main_v2 (c : Dev nD) : V m c main_v2 = shapeCast S1x128 (m ((c : Thread nD τ).loc main_arg2)) shapeCasts_S128_S1x128 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- and the padded angles, cut into rows, in the second. -/
theorem V_main_v1 (c : Dev nD) : V m c main_v1 = shapeCast S64x128 (pad S8192 ![0] ![64] ![0] (m ((c : Thread nD τ).loc main_arg1)) (sitofp .f32 (constantI S_ 32 0#32)) pads_S8128_S8192_0640 h_S_) shapeCasts_S8192_S64x128 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- Every start lies inside the padded angle table. -/
theorem starts_lt : ∀ i : Fin 256, (lit0 i).toNat < 16256 := by decide

end Cert.Proof.KI
end
-- ==== Proof.IdFrame.lean ====
module

public import proofs.«01_k».proof.Proof.Gen.KernelIdeal.Loops
public import proofs.«01_k».proof.Proof.Gen.KernelIdeal.Frame
public import Idealize.ShloMosaic.Lib.Claim
public import proofs.«01_k».proof.Proof.IdBody
public import proofs.«01_k».proof.Proof.IdEntry
@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The matrix of the launch: built at the first point, from the first point's blocks. -/
def Q (c : Dev nD) : Vec F S128x128 .f32 := qmat (iblk m c 0 t0_0) (iblk m c 1 t0_0) (iblk m c 2 t0_0) (iblk m c 3 t0_0)

/-- The tile of the result written at a point. -/
def tile (c : Dev nD) (t : Fin cfg0.N) : Vec F S8192x128 .f32 := k0_pay4 (iblk m c 4 t) (Q m c) (iblk m c 5 t)

/-- Between the points the scratch buffers hold anything, but the last holds the matrix. -/
def carried (c : Dev nD) (q : Vec F S128x128 .f32) : sProp 𝕄 :=
  iprop(((∃ X, owns (c : Thread nD τ) (Memref.whole cc0_scratch0 : Memref sig .tc .vmem S128x128 .f32) fullShare X) ∗ (∃ X, owns (c : Thread nD τ) (Memref.whole cc0_scratch1 : Memref sig .tc .vmem S256x128 .f32) fullShare X) ∗ (∃ X, owns (c : Thread nD τ) (Memref.whole cc0_scratch2 : Memref sig .tc .vmem S256x128 .f32) fullShare X) ∗ (∃ X, owns (c : Thread nD τ) (Memref.whole cc0_scratch3 : Memref sig .tc .vmem S256x128 .f32) fullShare X) ∗ (∃ X, owns (c : Thread nD τ) (Memref.whole cc0_scratch4 : Memref sig .tc .vmem S8x128x128 .f32) fullShare X) ∗ (∃ X, owns (c : Thread nD τ) (Memref.whole cc0_scratch5 : Memref sig .tc .vmem S4x128x128 .f32) fullShare X) ∗ owns (c : Thread nD τ) (Memref.whole cc0_scratch6 : Memref sig .tc .vmem S128x128 .f32) fullShare q) ∗ ∃ r, prngReg c r)

/-- At the start all seven hold anything. -/
theorem rest_eq (c : Dev nD) : (Pipeline.ΦA spec0 c : sProp 𝕄)
    = iprop(((∃ X, owns (c : Thread nD τ) (Memref.whole cc0_scratch0 : Memref sig .tc .vmem S128x128 .f32) fullShare X) ∗ (∃ X, owns (c : Thread nD τ) (Memref.whole cc0_scratch1 : Memref sig .tc .vmem S256x128 .f32) fullShare X) ∗ (∃ X, owns (c : Thread nD τ) (Memref.whole cc0_scratch2 : Memref sig .tc .vmem S256x128 .f32) fullShare X) ∗ (∃ X, owns (c : Thread nD τ) (Memref.whole cc0_scratch3 : Memref sig .tc .vmem S256x128 .f32) fullShare X) ∗ (∃ X, owns (c : Thread nD τ) (Memref.whole cc0_scratch4 : Memref sig .tc .vmem S8x128x128 .f32) fullShare X) ∗ (∃ X, owns (c : Thread nD τ) (Memref.whole cc0_scratch5 : Memref sig .tc .vmem S4x128x128 .f32) fullShare X) ∗ (∃ X, owns (c : Thread nD τ) (Memref.whole cc0_scratch6 : Memref sig .tc .vmem S128x128 .f32) fullShare X)) ∗ ∃ r, prngReg c r) := by
  unfold Pipeline.ΦA
  rw [scopedRest0_eq]
  simp only [owns_whole]

/-- Once the matrix is forgotten, so do they at the end. -/
theorem carried_rest (c : Dev nD) (q : Vec F S128x128 .f32) : carried (F := F) c q ⊢ Pipeline.ΦA spec0 c := by
  rw [rest_eq]
  unfold carried
  iintro ⟨⟨H0, H1, H2, H3, H4, H5, H6⟩, Hp⟩
  isplitr [Hp]
  · isplitl [H0]
    · iexact H0
    isplitl [H1]
    · iexact H1
    isplitl [H2]
    · iexact H2
    isplitl [H3]
    · iexact H3
    isplitl [H4]
    · iexact H4
    isplitl [H5]
    · iexact H5
    iexists q
    iexact H6
  iexact Hp

/-- The proof data: the inputs' blocks stay, the output's buffer holds its tile, the matrix is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile m c t
  Φ t := if t.val = 0 then Pipeline.ΦA spec0 c else carried c (Q m c)
  q _ := fullShare
  owed _ := 0

/-- The arrays are as the region finds them. -/
theorem A_eq (c : Dev nD) (w : Fin cfg0.W) : (dats m 0 c).A w = V m c (Pipeline.arrRef spec0 w) := by
  dsimp only [dats]

/-- Window 0 after the body. -/
theorem after_0 (c : Dev nD) (t : Fin cfg0.N) : (dats m 0 c).after 0 t = iblk m c 0 t := by dsimp only [dats]

/-- Window 1 after the body. -/
theorem after_1 (c : Dev nD) (t : Fin cfg0.N) : (dats m 0 c).after 1 t = iblk m c 1 t := by dsimp only [dats]

/-- Window 2 after the body. -/
theorem after_2 (c : Dev nD) (t : Fin cfg0.N) : (dats m 0 c).after 2 t = iblk m c 2 t := by dsimp only [dats]

/-- Window 3 after the body. -/
theorem after_3 (c : Dev nD) (t : Fin cfg0.N) : (dats m 0 c).after 3 t = iblk m c 3 t := by dsimp only [dats]

/-- Window 4 after the body. -/
theorem after_4 (c : Dev nD) (t : Fin cfg0.N) : (dats m 0 c).after 4 t = iblk m c 4 t := by dsimp only [dats]

/-- Window 5 after the body. -/
theorem after_5 (c : Dev nD) (t : Fin cfg0.N) : (dats m 0 c).after 5 t = iblk m c 5 t := by dsimp only [dats]

/-- Window 6 after the body. -/
theorem after_6 (c : Dev nD) (t : Fin cfg0.N) : (dats m 0 c).after 6 t = tile m c t := by dsimp only [dats]

/-- Window 0 before the body. -/
theorem before_0 (c : Dev nD) (t : Fin cfg0.N) (d) : (dats m 0 c).before 0 t d = iblk m c 0 t :=
  before0_0_of m (dats m 0 c) (A_eq m c 0) (after_0 m c) t d

/-- Window 1 before the body. -/
theorem before_1 (c : Dev nD) (t : Fin cfg0.N) (d) : (dats m 0 c).before 1 t d = iblk m c 1 t :=
  before0_1_of m (dats m 0 c) (A_eq m c 1) (after_1 m c) t d

/-- Window 2 before the body. -/
theorem before_2 (c : Dev nD) (t : Fin cfg0.N) (d) : (dats m 0 c).before 2 t d = iblk m c 2 t :=
  before0_2_of m (dats m 0 c) (A_eq m c 2) (after_2 m c) t d

/-- Window 3 before the body. -/
theorem before_3 (c : Dev nD) (t : Fin cfg0.N) (d) : (dats m 0 c).before 3 t d = iblk m c 3 t :=
  before0_3_of m (dats m 0 c) (A_eq m c 3) (after_3 m c) t d

/-- Window 4 before the body. -/
theorem before_4 (c : Dev nD) (t : Fin cfg0.N) (d) : (dats m 0 c).before 4 t d = iblk m c 4 t :=
  before0_4_of m (dats m 0 c) (A_eq m c 4) (after_4 m c) t d

/-- Window 5 before the body. -/
theorem before_5 (c : Dev nD) (t : Fin cfg0.N) (d) : (dats m 0 c).before 5 t d = iblk m c 5 t :=
  before0_5_of m (dats m 0 c) (A_eq m c 5) (after_5 m c) t d

/-- The starts the kernel reads are those of the table, so each is in range. -/
theorem starts_block (c : Dev nD) (t : Fin cfg0.N) (y : S256.Idx) : (show BitVec 32 from iblk m c 0 t y).toNat < 16256 := by
  unfold iblk
  rw [show V m c (Pipeline.arrRef spec0 0) = _ from V_main_c m c]
  exact starts_lt _

/-- At the start nothing is known of the scratch buffers; -/
theorem Φ_first (c : Dev nD) (t : Fin (cfg0.N + 1)) (h : t.val = 0) : (dats m 0 c).Φ t = Pipeline.ΦA spec0 c := by
  dsimp only [dats]
  rw [if_pos h]

/-- later the matrix is there. -/
theorem Φ_later (c : Dev nD) (t : Fin (cfg0.N + 1)) (h : t.val ≠ 0) : (dats m 0 c).Φ t = carried c (Q m c) := by
  dsimp only [dats]
  rw [if_neg h]

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body keeps its promise at both points. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rcases fin_N0 t with rfl | rfl
  · rw [Φ_first m c t0_0.castSucc (by decide), Φ_later m c t0_0.succ (by decide), rest_eq]
    unfold carried
    iintro ⟨⟨⟨S0, S1, S2, S3, S4, S5, S6⟩, Hp⟩, Ho, ⟨%d0, H0⟩, ⟨%d1, H1⟩, ⟨%d2, H2⟩, ⟨%d3, H3⟩, ⟨%d4, H4⟩, ⟨%d5, H5⟩, ⟨%d6, H6⟩⟩
    iapply (sound_first c Set.univ _ _ _ _ _ _ _ _ _ _ _ _ _ _ _ _ _ _ _ _ _ _ _ _ _ _ _ _ _ (iblk m c 0 t0_0) (iblk m c 1 t0_0) (iblk m c 2 t0_0) (iblk m c 3 t0_0) (iblk m c 4 t0_0) (iblk m c 5 t0_0) (by decide) (starts_block m c t0_0) _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexists _
      iexact H6
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    iintro ⟨H0, H1, H2, H3, H4, H5, H6, S0, S1, S2, S3, S4, S5, S6⟩
    isplitl [S0 S1 S2 S3 S4 S5 S6 Hp]
    · isplitr [Hp]
      · isplitl [S0]
        · iexact S0
        isplitl [S1]
        · iexact S1
        isplitl [S2]
        · iexact S2
        isplitl [S3]
        · iexact S3
        isplitl [S4]
        · iexact S4
        isplitl [S5]
        · iexact S5
        iexact S6
      iexact Hp
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    iexact H6
  · rw [Φ_later m c t0_1.castSucc (by decide), Φ_later m c t0_1.succ (by decide)]
    unfold carried
    iintro ⟨⟨⟨S0, S1, S2, S3, S4, S5, S6⟩, Hp⟩, Ho, ⟨%d0, H0⟩, ⟨%d1, H1⟩, ⟨%d2, H2⟩, ⟨%d3, H3⟩, ⟨%d4, H4⟩, ⟨%d5, H5⟩, ⟨%d6, H6⟩⟩
    iapply (sound_rest c Set.univ _ _ _ _ _ _ _ _ _ _ _ _ _ _ _ _ _ _ _ _ _ _ _ _ _ _ _ _ _ (iblk m c 0 t0_1) (iblk m c 1 t0_1) (iblk m c 2 t0_1) (iblk m c 3 t0_1) (iblk m c 4 t0_1) (iblk m c 5 t0_1) (by decide) (Q m c) _)
    isplitl [H0]
    · iexact H0
    isplitl [H1]
    · iexact H1
    isplitl [H2]
    · iexact H2
    isplitl [H3]
    · iexact H3
    isplitl [H4]
    · iexact H4
    isplitl [H5]
    · iexact H5
    isplitl [H6]
    · iexists _
      iexact H6
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    iintro ⟨H0, H1, H2, H3, H4, H5, H6, S0, S1, S2, S3, S4, S5, S6⟩
    isplitl [S0 S1 S2 S3 S4 S5 S6 Hp]
    · isplitr [Hp]
      · isplitl [S0]
        · iexact S0
        isplitl [S1]
        · iexact S1
        isplitl [S2]
        · iexact S2
        isplitl [S3]
        · iexact S3
        isplitl [S4]
        · iexact S4
        isplitl [S5]
        · iexact S5
        iexact S6
      iexact Hp
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    iexact H6

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The body's promise in the library's words. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends, with the arrays at what the proof data say and every counter at zero. -/
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Φ_first m c 0 rfl]) (hout := fun c => by rw [Φ_later m c (Fin.last _) (by decide)]; exact carried_rest c (Q m c))

/-- The launch ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.Proof.KI
end
-- ==== Proof.BitsFrame.lean ====
/- The kernel as printed for the machine's floats is the same program as the one read over the reals, so its frame is the same theorem. -/
module

public import proofs.«01_k».proof.Defs
public import proofs.«01_k».proof.Proof.IdFrame
public import proofs.«01_k».proof.Proof.Gen.Kernel
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL.Sem

/-- The two texts state one program. -/
theorem same_program : Cert.quiescent_Kernel (hKernel := Cert.Kernel.Gen.facts) = (∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) := by
  sl_kernel_rfl

/-- The frame of the kernel over the machine's floats. -/
theorem kernel_frame : Cert.quiescent_Kernel (hKernel := Cert.Kernel.Gen.facts) := by
  rw [same_program]
  exact fun m ρ _ => frame m ρ

end Cert.Proof.KI
end
-- ==== Proof.ValTab.lean ====
/- The table of angles the kernel lays out, read entry by entry. -/
module

public import proofs.«01_k».proof.Proof.IdBody
public import Idealize.ShloMosaic.Lib.ValueIdxCore
public import Idealize.ShloMosaic.Lib.KernelVsHost
public import Idealize.ShloMosaic.Lib.Pointwise.Reshape

@[expose] public section

noncomputable section

namespace Cert.Proof.KI

open Cert.KernelIdeal Cert.KernelIdeal.Gen
open Idealize.ShloMosaic

variable {F : FTy → Type} [FloatOps F]

/-- Each angle appears twice in a row in the widened table. -/
theorem pay37_apply (x2 : Vec F S64x128 .f32) (i j : Fin 128) :
    k0_pay37 x2 (ix2 i j) = x2 (ix2 (⟨i.val / 2, by omega⟩ : Fin 64) (⟨i.val % 2 * 64 + j.val / 2, by omega⟩ : Fin 128)) := by
  unfold k0_pay37
  dsimp only
  rw [shapeCast_self, transpose_apply [1, 0] _ transposes_S128x128_p1_0_S128x128 (ix2 i j) (ix2 j i) (by
    intro b; match b with | ⟨0, _⟩ => rfl | ⟨1, _⟩ => rfl)]
  rw [shapeCast_apply _ shapeCasts_S64x2x128_S128x128 (ix2 j i) (ix3 (⟨j.val / 2, by omega⟩ : Fin 64) (⟨j.val % 2, by omega⟩ : Fin 2) i) (by
    rw [rowMajor_val3 _ 256 128 rfl rfl, rowMajor_val2 _ 128 rfl]
    show j.val / 2 * 256 + j.val % 2 * 128 + i.val = j.val * 128 + i.val
    omega)]
  rw [broadcastTo_apply _ broadcasts_S64x1x128_S64x2x128 _ (ix3 (⟨j.val / 2, by omega⟩ : Fin 64) (0 : Fin 1) i) (by
    intro a; match a with | ⟨0, _⟩ => rfl | ⟨1, _⟩ => rfl | ⟨2, _⟩ => rfl)]
  rw [shapeCast_self]
  rw [shapeCast_apply _ shapeCasts_S64x128_S64x1x128 _ (ix2 (⟨j.val / 2, by omega⟩ : Fin 64) i) (by
    rw [rowMajor_val3 _ 128 128 rfl rfl, rowMajor_val2 _ 128 rfl]
    show j.val / 2 * 128 + i.val = j.val / 2 * 128 + 0 * 128 + i.val
    omega)]
  rw [transpose_apply [1, 0] _ transposes_S128x64_p1_0_S64x128 (ix2 (⟨j.val / 2, by omega⟩ : Fin 64) i) (ix2 i (⟨j.val / 2, by omega⟩ : Fin 64)) (by
    intro b; match b with | ⟨0, _⟩ => rfl | ⟨1, _⟩ => rfl)]
  rw [shapeCast_apply _ shapeCasts_S64x2x64_S128x64 _ (ix3 (⟨i.val / 2, by omega⟩ : Fin 64) (⟨i.val % 2, by omega⟩ : Fin 2) (⟨j.val / 2, by omega⟩ : Fin 64)) (by
    rw [rowMajor_val3 _ 128 64 rfl rfl, rowMajor_val2 _ 64 rfl]
    show i.val / 2 * 128 + i.val % 2 * 64 + j.val / 2 = i.val * 64 + j.val / 2
    omega)]
  rw [shapeCast_apply _ shapeCasts_S64x128_S64x2x64 _ (ix2 (⟨i.val / 2, by omega⟩ : Fin 64) (⟨i.val % 2 * 64 + j.val / 2, by omega⟩ : Fin 128)) (by
    rw [rowMajor_val3 _ 128 64 rfl rfl, rowMajor_val2 _ 128 rfl]
    show i.val / 2 * 128 + (i.val % 2 * 64 + j.val / 2) = i.val / 2 * 128 + i.val % 2 * 64 + j.val / 2
    omega)]
  rw [shapeCast_self]

/-- The lane part of a start. -/
theorem andi_toNat (w : BitVec 32) : (Scalar.andi w 127#32).toNat = w.toNat % 128 := by
  unfold Scalar.andi IntOp.andi
  rw [BitVec.toNat_and]
  exact Nat.and_two_pow_sub_one_eq_mod _ 7

/-- The turn that brings a start to the front. -/
theorem turn_toNat (w : BitVec 32) : (Scalar.subi 128#32 (Scalar.andi w 127#32)).toNat = 128 - w.toNat % 128 := by
  have h := andi_toNat w
  unfold Scalar.subi IntOp.subi
  rw [BitVec.toNat_sub, h]
  have : (128#32).toNat = 128 := rfl
  omega

/-- Lane `l` lies before the seam of the two rows. -/
theorem seam (w : BitVec 32) (l : Fin 128) : IntOp.cmpi .slt (BitVec.ofNat 32 l.val) (Scalar.subi 128#32 (Scalar.andi w 127#32)) = if l.val < 128 - w.toNat % 128 then 1#1 else 0#1 := by
  have h := turn_toNat w
  unfold IntOp.cmpi
  have e : (BitVec.ofNat 32 l.val).slt (Scalar.subi 128#32 (Scalar.andi w 127#32)) = decide (l.val < 128 - w.toNat % 128) := by
    rw [BitVec.slt_eq_decide, BitVec.toInt_eq_toNat_of_lt, BitVec.toInt_eq_toNat_of_lt, h, BitVec.toNat_ofNat]
    · congr 1; simp only [Nat.cast_lt, eq_iff_iff]; omega
    · omega
    · rw [BitVec.toNat_ofNat]; omega
  simp only [e]
  by_cases hl : l.val < 128 - w.toNat % 128 <;> simp [hl]

/-- Entry `l` of a row of the table is the `l`-th after the row's start, across the two rows it reaches. -/
theorem pay5_apply (X8 : S128x128.Idx → Elt F .f32) (w : BitVec 32) (l : Fin 128) (hw : w.toNat < 16256) :
    k0_pay5 (F := F) lanes w (rowTwo X8 w) (ix2 (0 : Fin 1) l) = X8 (ix2 (⟨(w.toNat + l.val) / 128, by omega⟩ : Fin 128) (⟨(w.toNat + l.val) % 128, by omega⟩ : Fin 128)) := by
  unfold k0_pay5
  dsimp only
  show Scalar.select (IntOp.cmpi .slt (BitVec.ofNat 32 (0 * 128 + l.val)) (Scalar.subi 128#32 (Scalar.andi w 127#32))) _ _ = _
  rw [Nat.zero_mul, Nat.zero_add, seam]
  have key : ∀ (r : Fin 2), dynamicRotate 1 (Scalar.subi 128#32 (Scalar.andi w 127#32)) none (rowTwo X8 w) rotates_S2x128_d1 (ix2 r l)
      = X8 (ix2 (⟨(w.toNat / 128 + r.val) % 128, Nat.mod_lt _ (by decide)⟩ : Fin 128) (⟨(w.toNat + l.val) % 128, by omega⟩ : Fin 128)) := by
    intro r
    refine (dynamicRotate_apply 1 _ (rowTwo X8 w) rotates_S2x128_d1 (ix2 r l) (ix2 r (⟨(w.toNat + l.val) % 128, by omega⟩ : Fin 128)) ?_).trans ?_
    · intro b
      match b with
      | ⟨0, _⟩ => rfl
      | ⟨1, _⟩ =>
        show (w.toNat + l.val) % 128 = (l.val + 128 - (Scalar.subi 128#32 (Scalar.andi w 127#32)).toNat % 128) % 128
        rw [turn_toNat]; omega
    · exact congrArg X8 (funext fun a => match a with | ⟨0, _⟩ => rfl | ⟨1, _⟩ => rfl)
  have cut : ∀ (r : Fin 2) (o : Fin 2 → ℕ) (h : S2x128.Slices o S1x128), o = ![r.val, 0] → extractStridedSlice S1x128 o (dynamicRotate 1 (Scalar.subi 128#32 (Scalar.andi w 127#32)) none (rowTwo X8 w) rotates_S2x128_d1) h (ix2 (0 : Fin 1) l)
      = X8 (ix2 (⟨(w.toNat / 128 + r.val) % 128, Nat.mod_lt _ (by decide)⟩ : Fin 128) (⟨(w.toNat + l.val) % 128, by omega⟩ : Fin 128)) := by
    intro r o h ho
    refine Eq.trans ?_ (key r)
    refine extractStridedSlice_apply o _ h (ix2 (0 : Fin 1) l) (ix2 r l) ?_
    subst ho
    intro a
    match a with
    | ⟨0, _⟩ => rfl
    | ⟨1, _⟩ => show l.val = 0 + l.val; omega
  by_cases hl : l.val < 128 - w.toNat % 128
  · rw [if_pos hl, ValueIdx.select_one]
    refine (cut 0 _ _ rfl).trans ?_
    congr 2
    apply Fin.ext
    show (w.toNat / 128 + 0) % 128 = (w.toNat + l.val) / 128
    omega
  · rw [if_neg hl, ValueIdx.select_zero]
    refine (cut 1 _ _ rfl).trans ?_
    congr 2
    apply Fin.ext
    show (w.toNat / 128 + 1) % 128 = (w.toNat + l.val) / 128
    omega

/-- Entry `l` of row `r` of the table is angle number half of start plus `l`. -/
theorem tab_apply (X1 : S256.Idx → Elt F .i32) (x2 : Vec F S64x128 .f32) (th : ℕ → F .f32) (hth : ∀ (a : Fin 64) (b : Fin 128), x2 (ix2 a b) = th (128 * a.val + b.val))
    (r : Fin 256) (l : Fin 128) (w : ℕ) (he : (show BitVec 32 from X1 (ix1 r)).toNat = w) (hw : w < 16256) :
    tab lanes X1 (k0_pay37 x2) (ix2 r l) = th ((w + l.val) / 2) := by
  have hW : (wordAt (F := F) X1 r.val).toNat = w := by
    rw [← he]
    unfold wordAt
    congr 2
    funext a
    match a with
    | ⟨0, _⟩ => exact Fin.ext (Nat.mod_eq_of_lt r.isLt)
  refine (pay5_apply (k0_pay37 x2) (wordAt (F := F) X1 r.val) l (by omega)).trans ?_
  rw [pay37_apply, hth]
  congr 1
  dsimp only
  rw [hW]
  omega

end Cert.Proof.KI
end
-- ==== Proof.Wires.lean ====
/- The mathematics of the layer over the reals: a network of plane rotations, cut into groups of disjoint wires. -/
module

public import Idealize.ShloMosaic.PureOps.Ideal

@[expose] public section

noncomputable section

namespace Cert.Proof.Wires

/-- How many wires group `g` has. -/
def cnt (g : ℕ) : ℕ := if g < 253 then min g (252 - g) / 2 + 1 else 0

/-- The number of the first wire of group `g`. -/
def start : ℕ → ℕ
  | 0 => 0
  | g + 1 => start g + cnt g

/-- One wire turns the entries `p` and `p + 1` by an angle. -/
def rot (p : ℕ) (t : ℝ) (v : ℕ → ℝ) : ℕ → ℝ := fun l =>
  if l = p then v p * Real.cos t - v (p + 1) * Real.sin t
  else if l = p + 1 then v p * Real.sin t + v (p + 1) * Real.cos t
  else v l

/-- The first `n` wires, one after the other. -/
def wires (P : ℕ → ℕ) (a : ℕ → ℝ) : ℕ → (ℕ → ℝ) → ℕ → ℝ
  | 0, v => v
  | n + 1, v => rot (P n) (a n) (wires P a n v)

/-- Group `g` touches entry `l`. -/
def act (g l : ℕ) : Prop := g % 2 ≤ l ∧ l < g % 2 + 2 * cnt g

/-- Whether it does can be decided. -/
instance (g l : ℕ) : Decidable (act g l) := inferInstanceAs (Decidable (_ ∧ _))

/-- The angle at entry `l` of group `g`. -/
def angle (a : ℕ → ℝ) (g l : ℕ) : ℝ := a (start g + (l - g % 2) / 2)

/-- One group, all its wires at once. -/
def lay (a : ℕ → ℝ) (g : ℕ) (v : ℕ → ℝ) : ℕ → ℝ := fun l =>
  if act g l then
    if (l - g % 2) % 2 = 0 then v l * Real.cos (angle a g l) - v (l + 1) * Real.sin (angle a g l)
    else v (l - 1) * Real.sin (angle a g l) + v l * Real.cos (angle a g l)
  else v l

/-- The groups `g`, `g + 1`, …, `g + n - 1`, one after the other. -/
def lays (a : ℕ → ℝ) (g : ℕ) : ℕ → (ℕ → ℝ) → ℕ → ℝ
  | 0, v => v
  | n + 1, v => lay a (g + n) (lays a g n v)

/-- Wires on neighbouring pairs from `s` on touch each entry once. -/
theorem wires_pairs (P : ℕ → ℕ) (a : ℕ → ℝ) (v : ℕ → ℝ) (n s : ℕ) : ∀ k, (∀ i < k, P (n + i) = s + 2 * i) → ∀ l,
    wires P a (n + k) v l = if s ≤ l ∧ l < s + 2 * k then
      if (l - s) % 2 = 0 then wires P a n v l * Real.cos (a (n + (l - s) / 2)) - wires P a n v (l + 1) * Real.sin (a (n + (l - s) / 2))
      else wires P a n v (l - 1) * Real.sin (a (n + (l - s) / 2)) + wires P a n v l * Real.cos (a (n + (l - s) / 2))
    else wires P a n v l
  | 0, _, l => by rw [if_neg (by omega)]; rfl
  | k + 1, h, l => by
    have ih := wires_pairs P a v n s k (fun i hi => h i (by omega))
    show rot (P (n + k)) (a (n + k)) (wires P a (n + k) v) l = _
    rw [h k (by omega)]
    unfold rot
    have e0 : wires P a (n + k) v (s + 2 * k) = wires P a n v (s + 2 * k) := by rw [ih, if_neg (by omega)]
    have e1 : wires P a (n + k) v (s + 2 * k + 1) = wires P a n v (s + 2 * k + 1) := by rw [ih, if_neg (by omega)]
    rw [e0, e1]
    by_cases h0 : l = s + 2 * k
    · subst h0
      rw [if_pos rfl, if_pos (by omega), if_pos (by omega), show (s + 2 * k - s) / 2 = k by omega]
    by_cases h1 : l = s + 2 * k + 1
    · subst h1
      rw [if_neg (by omega), if_pos rfl, if_pos (by omega), if_neg (by omega), show (s + 2 * k + 1 - s) / 2 = k by omega, show s + 2 * k + 1 - 1 = s + 2 * k by omega]
    rw [if_neg h0, if_neg h1, ih l]
    by_cases h2 : s ≤ l ∧ l < s + 2 * k
    · rw [if_pos h2, if_pos (show s ≤ l ∧ l < s + 2 * (k + 1) by omega)]
    · rw [if_neg h2, if_neg (by omega)]

/-- The wires up to group `g` are the groups up to `g`. -/
theorem wires_eq_lays (P : ℕ → ℕ) (a : ℕ → ℝ) (v : ℕ → ℝ) (hP : ∀ g, ∀ i < cnt g, P (start g + i) = g % 2 + 2 * i) :
    ∀ g, wires P a (start g) v = lays a 0 g v
  | 0 => rfl
  | g + 1 => by
    funext l
    refine (wires_pairs P a v (start g) (g % 2) (cnt g) (hP g) l).trans ?_
    rw [wires_eq_lays P a v hP g]
    show _ = lay a (0 + g) (lays a 0 g v) l
    rw [Nat.zero_add]
    rfl

/-- A group is linear. -/
theorem lay_sum (a : ℕ → ℝ) (g : ℕ) (x : Fin 128 → ℝ) (B : Fin 128 → ℕ → ℝ) :
    lay a g (fun l => ∑ m, x m * B m l) = fun l => ∑ m, x m * lay a g (B m) l := by
  funext l
  unfold lay
  by_cases h : act g l
  · simp only [if_pos h]
    by_cases h' : (l - g % 2) % 2 = 0
    · simp only [if_pos h', Finset.sum_mul, ← Finset.sum_sub_distrib]
      exact Finset.sum_congr rfl fun m _ => by ring
    · simp only [if_neg h', Finset.sum_mul, ← Finset.sum_add_distrib]
      exact Finset.sum_congr rfl fun m _ => by ring
  · simp only [if_neg h]

/-- So are several groups. -/
theorem lays_sum (a : ℕ → ℝ) (g : ℕ) (x : Fin 128 → ℝ) (B : Fin 128 → ℕ → ℝ) : ∀ n,
    lays a g n (fun l => ∑ m, x m * B m l) = fun l => ∑ m, x m * lays a g n (B m) l
  | 0 => rfl
  | n + 1 => by
    show lay a (g + n) (lays a g n _) = _
    rw [lays_sum a g x B n, lay_sum]
    rfl

/-- Groups follow each other. -/
theorem lays_add (a : ℕ → ℝ) (g n : ℕ) (v : ℕ → ℝ) : ∀ k, lays a g (n + k) v = lays a (g + n) k (lays a g n v)
  | 0 => rfl
  | k + 1 => by
    show lay a (g + (n + k)) (lays a g (n + k) v) = lay a (g + n + k) (lays a (g + n) k (lays a g n v))
    rw [lays_add a g n v k, Nat.add_assoc]

/-- No group touches an entry beyond the first 128. -/
theorem act_lt {g l : ℕ} (h : act g l) : l < 128 := by
  unfold act cnt at h
  split at h <;> omega

/-- A group keeps the entries beyond the first 128 at zero, -/
theorem lays_beyond (a : ℕ → ℝ) (g : ℕ) (v : ℕ → ℝ) (hv : ∀ l, 128 ≤ l → v l = 0) : ∀ n l, 128 ≤ l → lays a g n v l = 0
  | 0, l, h => hv l h
  | n + 1, l, h => by
    show lay a (g + n) (lays a g n v) l = 0
    unfold lay
    rw [if_neg fun h' => absurd (act_lt h') (by omega)]
    exact lays_beyond a g v hv n l h

/-- The unit vectors. -/
def unit (m : ℕ) : ℕ → ℝ := fun l => if l = m then 1 else 0

/-- A vector of 128 entries is a sum of unit vectors. -/
theorem sum_unit (v : ℕ → ℝ) (hv : ∀ l, 128 ≤ l → v l = 0) : (fun l => ∑ m : Fin 128, v m * unit m l) = v := by
  funext l
  unfold unit
  by_cases h : l < 128
  · rw [Finset.sum_eq_single (⟨l, h⟩ : Fin 128)]
    · simp
    · intro m _ hm
      rw [if_neg fun e => hm (Fin.ext e.symm), mul_zero]
    · intro hm
      exact absurd (Finset.mem_univ _) hm
  · rw [hv l (by omega)]
    exact Finset.sum_eq_zero fun m _ => by rw [if_neg (by have := m.isLt; omega), mul_zero]

/-- Multiplying a row by the matrix of some groups applies the groups to the row. -/
theorem row_mul (a : ℕ → ℝ) (g n : ℕ) (v : ℕ → ℝ) (hv : ∀ l, 128 ≤ l → v l = 0) (l : ℕ) :
    ∑ m : Fin 128, v m * lays a g n (unit m) l = lays a g n v l := by
  conv_rhs => rw [← sum_unit v hv, lays_sum]

/-- The matrix of some groups times the matrix of the next is the matrix of both. -/
theorem mat_mul (a : ℕ → ℝ) (g n k : ℕ) (m : Fin 128) (l : ℕ) :
    ∑ j : Fin 128, lays a g n (unit m) j * lays a (g + n) k (unit j) l = lays a g (n + k) (unit m) l := by
  rw [lays_add]
  exact row_mul a (g + n) k _ (lays_beyond a g _ (fun l h => if_neg (by have := m.isLt; omega)) n) l

end Cert.Proof.Wires
end
-- ==== Proof.Tables.lean ====
/- The kernel's table of starts, read as the groups of the network. -/
module

public import proofs.«01_k».proof.KernelIdeal
public import proofs.«01_k».proof.Proof.Wires

@[expose] public section

noncomputable section

namespace Cert.Proof.Tables

open Cert.Proof.Wires

/-- The group that row `r` of the kernel's tables belongs to: eight chunks of 32 groups, interleaved. -/
def grp (r : ℕ) : ℕ := 32 * (r % 8) + r / 8

/-- The starts: twice the number of the group's first wire, less the group's parity. -/
theorem starts_eq : ∀ r : Fin 256, cnt (grp r) ≠ 0 → (KernelIdeal.lit0 r).toNat = 2 * start (grp r) - grp r % 2 := by
  decide +kernel

end Cert.Proof.Tables
end
-- ==== Proof.ValLayer.lean ====
/- One layer of the kernel over the reals: each lane keeps its part and gains its partner's. -/
module

public import proofs.«01_k».proof.Proof.ValTab
public import proofs.«01_k».proof.Proof.Wires
public import proofs.«01_k».proof.Proof.Tables
public import Idealize.ShloMosaic.Lib.ValueIdx
public import Idealize.ShloMosaic.Lib.Pointwise.Contract

@[expose] public section

noncomputable section

namespace Cert.Proof.KI

open Cert.KernelIdeal Cert.KernelIdeal.Gen Cert.Proof.Wires
open Idealize.ShloMosaic

/-- The partner of lane `l` in a layer of even number. -/
def evenPartner (l : ℕ) : ℕ := if l % 2 = 0 then l + 1 else l - 1

/-- The partner of lane `l` in a layer of odd number; the outermost lanes are their own. -/
def oddPartner (l : ℕ) : ℕ := if l % 2 = 1 then min (l + 1) 127 else l - 1

/-- The printed index of a partner, wrapped where negative, is the index itself. -/
def wrapped (p : BitVec 32) : BitVec 32 := Scalar.select (IntOp.cmpi .slt p 0#32) (IntOp.addi p 128#32) p

/-- The printed even partners are the even partners. -/
theorem pay42_word (c : Fin 8) (i l : Fin 128) : (wrapped (k0_pay42 (ix3 c i l))).toNat % 128 = evenPartner l.val := by
  show (wrapped (IntOp.xori (BitVec.ofNat 32 (0 * 128 + l.val)) 1#32)).toNat % 128 = _
  revert l
  decide +kernel

/-- The printed odd partners are the odd partners. -/
theorem pay43_word (c : Fin 8) (i l : Fin 128) : (wrapped (k0_pay43 (ix3 c i l))).toNat % 128 = oddPartner l.val := by
  show (wrapped (IntOp.minsi 127#32 (IntOp.maxsi 0#32 (IntOp.addi (IntOp.xori (IntOp.subi (BitVec.ofNat 32 (0 * 128 + l.val)) 1#32) 1#32) 1#32)))).toNat % 128 = _
  revert l
  decide +kernel

/-- The rows of a layer's coefficients, one per block, reach all its rows. -/
theorem spread_apply (cs : Vec Ideal S8x128 .f32) (c : Fin 8) (i l : Fin 128) :
    broadcastTo S8x128x128 (shapeCast S8x1x128 cs shapeCasts_S8x128_S8x1x128) broadcasts_S8x1x128_S8x128x128 (ix3 c i l) = cs (ix2 c l) := by
  refine (broadcastTo_apply _ broadcasts_S8x1x128_S8x128x128 (ix3 c i l) (ix3 c (0 : Fin 1) l) (by
    intro a; match a with | ⟨0, _⟩ => rfl | ⟨1, _⟩ => rfl | ⟨2, _⟩ => rfl)).trans ?_
  exact shapeCast_apply _ shapeCasts_S8x128_S8x1x128 _ (ix2 c l) (by
    rw [rowMajor_val3 _ 128 128 rfl rfl, rowMajor_val2 _ 128 rfl]
    show c.val * 128 + l.val = c.val * 128 + 0 * 128 + l.val
    omega)

/-- One entry after a layer: its own coefficient times itself, plus the other times its partner. -/
theorem layer_apply (p : IVec S8x128x128 32) (q : FVec Ideal S8x128x128 .f32) (cs cp : Vec Ideal S8x128 .f32) (c : Fin 8) (i l m : Fin 128)
    (hm : (wrapped (p (ix3 c i l))).toNat % 128 = m.val) :
    layer p q cs cp (ix3 c i l) = (cs (ix2 c l) * q (ix3 c i l) + cp (ix2 c l) * q (ix3 c i m) : EReal) := by
  unfold layer
  rw [ValueIdx.addf_apply, ValueIdx.mulf_apply, ValueIdx.mulf_apply, spread_apply, spread_apply, shapeCast_shapeCast]
  refine congrArg (fun z : EReal => (cs (ix2 c l) * q (ix3 c i l) + cp (ix2 c l) * z : EReal)) ?_
  refine congrArg q (funext fun a => ?_)
  match a with
  | ⟨0, _⟩ => rfl
  | ⟨1, _⟩ => rfl
  | ⟨2, _⟩ => exact Fin.ext hm

/-- The coefficient a lane keeps itself by in group `g`. -/
def keep (T : ℕ → ℝ) (g l : ℕ) : ℝ := if act g l then Real.cos (angle T g l) else 1

/-- The coefficient a lane gains its partner by in group `g`. -/
def gain (T : ℕ → ℝ) (g l : ℕ) : ℝ := if act g l then if (l - g % 2) % 2 = 0 then -Real.sin (angle T g l) else Real.sin (angle T g l) else 0

/-- The partner of a lane in group `g`. -/
def partner (g l : ℕ) : ℕ := if g % 2 = 0 then evenPartner l else oddPartner l

/-- A group, entry by entry: what is kept and what is gained. -/
theorem lay_partner (T : ℕ → ℝ) (g : ℕ) (v : ℕ → ℝ) (l : ℕ) : lay T g v l = keep T g l * v l + gain T g l * v (partner g l) := by
  unfold lay keep gain
  by_cases h : act g l
  · rw [if_pos h, if_pos h, if_pos h]
    have h1 := h.1
    have h2 := h.2
    have hc : g % 2 + 2 * cnt g ≤ 128 := by
      unfold cnt at h2 ⊢
      split at h2 <;> rename_i hg
      · rw [if_pos hg]; omega
      · omega
    by_cases hl : (l - g % 2) % 2 = 0
    · rw [if_pos hl, if_pos hl]
      have e : partner g l = l + 1 := by unfold partner evenPartner oddPartner; split_ifs <;> omega
      rw [e]; ring
    · rw [if_neg hl, if_neg hl]
      have e : partner g l = l - 1 := by unfold partner evenPartner oddPartner; split_ifs <;> omega
      rw [e]; ring
  · rw [if_neg h, if_neg h, if_neg h]; ring

/-- The tables of coefficients hold what each group keeps and gains. -/
def Coefs (T : ℕ → ℝ) (CS CP : S256x128.Idx → EReal) : Prop :=
  ∀ (r : Fin 256) (l : Fin 128), CS (ix2 r l) = ((keep T (Tables.grp r) l : ℝ) : EReal) ∧ CP (ix2 r l) = ((gain T (Tables.grp r) l : ℝ) : EReal)

/-- Block `c` is the product of the first `n` groups of its 32. -/
def Upto (T : ℕ → ℝ) (n : ℕ) (q : S8x128x128.Idx → EReal) : Prop :=
  ∀ (c : Fin 8) (i l : Fin 128), q (ix3 c i l) = ((lays T (32 * c.val) n (unit i) l : ℝ) : EReal)

/-- A layer with the group's partners appends one group to every block. -/
theorem layer_upto (T : ℕ → ℝ) (CS CP : S256x128.Idx → EReal) (hC : Coefs T CS CP) (n : ℕ) (hn : n < 32) (p : IVec S8x128x128 32)
    (hp : ∀ (c : Fin 8) (i l : Fin 128), (wrapped (p (ix3 c i l))).toNat % 128 = partner n l) (q : FVec Ideal S8x128x128 .f32) (hq : Upto T n q) :
    Upto T (n + 1) (layer p q (slab (F := Ideal) CS n) (slab (F := Ideal) CP n)) := by
  intro c i l
  have hlt : partner n l < 128 := by have := hp c i l; omega
  have hr : (8 * n + c.val) % 256 = 8 * n + c.val := by omega
  have hg : Tables.grp (8 * n + c.val) = 32 * c.val + n := by unfold Tables.grp; omega
  have hpar : partner (32 * c.val + n) l = partner n l := by
    unfold partner; rw [show (32 * c.val + n) % 2 = n % 2 by omega]
  have hs : ∀ X : S256x128.Idx → EReal, slab (F := Ideal) X n (ix2 c l) = X (ix2 (⟨8 * n + c.val, by omega⟩ : Fin 256) l) := fun X =>
    congrArg X (funext fun a => match a with
      | ⟨0, _⟩ => Fin.ext hr
      | ⟨1, _⟩ => rfl)
  rw [layer_apply p q _ _ c i l ⟨partner n l, hlt⟩ (hp c i l), hs, hs, (hC _ l).1, (hC _ l).2, hq c i l, hq c i ⟨partner n l, hlt⟩]
  show _ = ((lay T (32 * c.val + n) (lays T (32 * c.val) n (unit i)) l : ℝ) : EReal)
  rw [lay_partner, hpar, ← hg]
  push_cast
  rfl

/-- Even groups use the even partners. -/
theorem even_partners (n : ℕ) (h : n % 2 = 0) (c : Fin 8) (i l : Fin 128) : (wrapped (k0_pay42 (ix3 c i l))).toNat % 128 = partner n l :=
  (pay42_word c i l).trans (if_pos h).symm

/-- Odd groups use the odd partners. -/
theorem odd_partners (n : ℕ) (h : n % 2 = 1) (c : Fin 8) (i l : Fin 128) : (wrapped (k0_pay43 (ix3 c i l))).toNat % 128 = partner n l :=
  (pay43_word c i l).trans (if_neg (by omega)).symm

/-- Eight layers append eight groups. -/
theorem trip_upto (T : ℕ → ℝ) (CS CP : S256x128.Idx → EReal) (hC : Coefs T CS CP) (n : ℕ) (hn : n < 4) (q : FVec Ideal S8x128x128 .f32) (hq : Upto T (8 * n) q) :
    Upto T (8 * (n + 1)) (trip2 (F := Ideal) CS CP n q) := by
  unfold trip2
  have e := fun k (hk : (8 * n + k) % 2 = 0) (h : 8 * n + k < 32) => layer_upto T CS CP hC (8 * n + k) h k0_pay42 (even_partners _ hk)
  have o := fun k (hk : (8 * n + k) % 2 = 1) (h : 8 * n + k < 32) => layer_upto T CS CP hC (8 * n + k) h k0_pay43 (odd_partners _ hk)
  exact o 7 (by omega) (by omega) _ (e 6 (by omega) (by omega) _ (o 5 (by omega) (by omega) _ (e 4 (by omega) (by omega) _
    (o 3 (by omega) (by omega) _ (e 2 (by omega) (by omega) _ (o 1 (by omega) (by omega) _ (e 0 (by omega) (by omega) _ hq)))))))

/-- The blocks start as unit matrices. -/
theorem pay41_upto (T : ℕ → ℝ) : Upto T 0 (k0_pay41 (F := Ideal)) := by
  intro c i l
  unfold k0_pay41
  dsimp only
  rw [shapeCast_self]
  show ((((IntOp.cmpi .eq (BitVec.ofNat 32 (0 * 128 + i.val)) (BitVec.ofNat 32 (0 * 128 + l.val))).setWidth 32).toInt : ℝ) : EReal) = ((unit i l : ℝ) : EReal)
  unfold unit IntOp.cmpi
  rw [Nat.zero_mul, Nat.zero_add, Nat.zero_add]
  by_cases h : l.val = i.val
  · rw [if_pos h, h]; simp
  · rw [if_neg h]
    have : (BitVec.ofNat 32 i.val == BitVec.ofNat 32 l.val) = false := by
      rw [beq_eq_false_iff_ne]
      intro e
      have := congrArg BitVec.toNat e
      simp only [BitVec.toNat_ofNat] at this
      omega
    simp [this]

/-- After all trips each block is the product of its 32 groups. -/
theorem blocks_upto (T : ℕ → ℝ) (CS CP : S256x128.Idx → EReal) (hC : Coefs T CS CP) : ∀ n, n ≤ 4 → Upto T (8 * n) (blocks (F := Ideal) CS CP k0_pay41 n)
  | 0, _ => pay41_upto T
  | n + 1, h => trip_upto T CS CP hC n (by omega) _ (blocks_upto T CS CP hC n (by omega))

end Cert.Proof.KI
end
-- ==== Proof.ValMat.lean ====
/- The matrix the kernel builds, over the reals: the product of all groups. -/
module

public import proofs.«01_k».proof.Proof.ValLayer

@[expose] public section

noncomputable section

namespace Cert.Proof.KI

open Cert.KernelIdeal Cert.KernelIdeal.Gen Cert.Proof.Wires
open Idealize.ShloMosaic

/-- The word of one denotes one. -/
theorem one_word : Ideal.ofBits .f32 0x3F800000#32 = ((1 : ℝ) : EReal) := by
  simp [Ideal.ofBits, Ideal.ieee, -EReal.coe_mul]; norm_num

/-- The word of two denotes two. -/
theorem two_word : Ideal.ofBits .f32 0x40000000#32 = ((2 : ℝ) : EReal) := by
  simp [Ideal.ofBits, Ideal.ieee, -EReal.coe_mul]; norm_num

/-- The word of zero denotes zero. -/
theorem zero_word : Ideal.ofBits .f32 0x00000000#32 = ((0 : ℝ) : EReal) := by
  simp [Ideal.ofBits, Ideal.ieee, -EReal.coe_mul]

/-- The first coefficient, over the reals: the cosine where the mask is one, one where it is zero. -/
theorem pay39_apply (w a : S256x128.Idx → EReal) (y : S256x128.Idx) (t b : ℝ) (hw : w y = (t : EReal)) (ha : a y = (b : EReal)) :
    k0_pay39 (F := Ideal) w a y = ((b * Real.cos t + (1 - b) : ℝ) : EReal) := by
  unfold k0_pay39
  rw [shapeCast_self]
  show a y * Ideal.cos (w y) + (Ideal.ofBits .f32 0x3F800000#32 - a y) = _
  rw [hw, ha, one_word, Ideal.cos_coe]
  norm_cast

/-- The second coefficient, over the reals: the sine, negative on the left lanes, zero where the mask is zero. -/
theorem pay40_apply (w a l : S256x128.Idx → EReal) (y : S256x128.Idx) (t b e : ℝ) (hw : w y = (t : EReal)) (ha : a y = (b : EReal)) (hl : l y = (e : EReal)) :
    k0_pay40 (F := Ideal) w a l y = (((b - 2 * e) * Real.sin t : ℝ) : EReal) := by
  unfold k0_pay40
  rw [shapeCast_self]
  show (a y - Ideal.ofBits .f32 0x40000000#32 * l y) * Ideal.sin (w y) = _
  rw [hw, ha, hl, two_word, Ideal.sin_coe]
  norm_cast

/-- The start of a later group is not zero. -/
theorem start_pos : ∀ g, 0 < g → 0 < start g
  | 1, _ => by decide
  | g + 2, _ => Nat.lt_of_lt_of_le (start_pos (g + 1) (by omega)) (Nat.le_add_right _ _)

/-- What the launch gives the matrix's construction: the starts, the angles and the two masks. -/
structure Given (T : ℕ → ℝ) (x1 : S256.Idx → BitVec 32) (x2 : S64x128.Idx → EReal) (x3 x4 : S256x128.Idx → EReal) : Prop where
  starts : ∀ r : Fin 256, cnt (Tables.grp r) ≠ 0 → (x1 (ix1 r)).toNat = 2 * start (Tables.grp r) - Tables.grp r % 2
  inside : ∀ r : Fin 256, (x1 (ix1 r)).toNat < 16256
  angles : ∀ (a : Fin 64) (b : Fin 128), x2 (ix2 a b) = ((T (128 * a.val + b.val) : ℝ) : EReal)
  mask : ∀ (r : Fin 256) (l : Fin 128), x3 (ix2 r l) = (((if act (Tables.grp r) l then 1 else 0) : ℝ) : EReal)
  left : ∀ (r : Fin 256) (l : Fin 128), x4 (ix2 r l) = (((if act (Tables.grp r) l ∧ (l.val - Tables.grp r % 2) % 2 = 0 then 1 else 0) : ℝ) : EReal)

/-- The coefficient tables hold what each group keeps and gains. -/
theorem coefs {T : ℕ → ℝ} {x1 : S256.Idx → BitVec 32} {x2 : S64x128.Idx → EReal} {x3 x4 : S256x128.Idx → EReal} (G : Given T x1 x2 x3 x4) :
    Coefs T (k0_pay39 (F := Ideal) (tab (F := Ideal) lanes x1 (k0_pay37 (F := Ideal) x2)) x3)
      (k0_pay40 (F := Ideal) (tab (F := Ideal) lanes x1 (k0_pay37 (F := Ideal) x2)) x3 x4) := by
  intro r l
  have hw := tab_apply (F := Ideal) x1 x2 (fun n => ((T n : ℝ) : EReal)) G.angles r l _ rfl (G.inside r)
  rw [pay39_apply _ _ _ _ _ hw (G.mask r l), pay40_apply _ _ _ _ _ _ _ hw (G.mask r l) (G.left r l)]
  unfold keep gain
  by_cases h : act (Tables.grp r) l
  · have hc : cnt (Tables.grp r) ≠ 0 := by have := h.1; have := h.2; omega
    have e : ((x1 (ix1 r)).toNat + l.val) / 2 = start (Tables.grp r) + (l.val - Tables.grp r % 2) / 2 := by
      rw [G.starts r hc]
      have h1 := h.1
      have h2 : 0 < Tables.grp r → 0 < start (Tables.grp r) := start_pos _
      omega
    rw [if_pos h, if_pos h, if_pos h]
    unfold angle
    rw [← e]
    by_cases hl : (l.val - Tables.grp r % 2) % 2 = 0
    · rw [if_pos ⟨h, hl⟩, if_pos hl]
      exact ⟨congrArg _ (by ring), congrArg _ (by ring)⟩
    · rw [if_neg (fun hh => hl hh.2), if_neg hl]
      exact ⟨congrArg _ (by ring), congrArg _ (by ring)⟩
  · rw [if_neg h, if_neg h, if_neg h, if_neg (fun hh => h hh.1)]
    exact ⟨congrArg _ (by ring), congrArg _ (by ring)⟩

/-- A 128-wide matrix over the reals that applies the groups `g`, …, `g + n - 1`. -/
def Applies (T : ℕ → ℝ) (g n : ℕ) (M : S128x128.Idx → EReal) : Prop :=
  ∀ i l : Fin 128, M (ix2 i l) = ((lays T g n (unit i) l : ℝ) : EReal)

/-- A sum of real products, taken among the extended reals. -/
theorem sum_coe (f g : Fin 128 → ℝ) : (∑ k : Fin 128, (f k : EReal) * (g k : EReal)) = ((∑ k : Fin 128, f k * g k : ℝ) : EReal) := by
  have h : ∀ s : Finset (Fin 128), (∑ k ∈ s, (f k : EReal) * (g k : EReal)) = ((∑ k ∈ s, f k * g k : ℝ) : EReal) := by
    intro s
    induction s using Finset.induction_on with
    | empty => rw [Finset.sum_empty, Finset.sum_empty, EReal.coe_zero]
    | insert a s ha ih => rw [Finset.sum_insert ha, Finset.sum_insert ha, ih, EReal.coe_add, EReal.coe_mul]
  exact h Finset.univ

/-- One entry of a product of blocks. -/
theorem mm_apply (a b : FVec Ideal S128x128 .f32) (i l : Fin 128) : mm a b (ix2 i l) = (∑ k : Fin 128, a (ix2 i k) * b (ix2 k l) : EReal) := by
  unfold mm
  refine (Ideal.matmul_apply₁_of dot_S128x128_S128x128_S128x128_1_0_0_1_n_n rfl rfl a b _ (ix2 i l) (fun k => ix2 i k) (fun k => ix2 k l)
    (fun k => by funext a; match a with | ⟨0, _⟩ => rfl | ⟨1, _⟩ => rfl) (fun k => by funext a; match a with | ⟨0, _⟩ => rfl | ⟨1, _⟩ => rfl)).trans ?_
  show Ideal.ofBits .f32 0x00000000#32 + _ = _
  rw [zero_word, EReal.coe_zero, zero_add]
  rfl

/-- The product of two neighbouring ranges of groups is their union. -/
theorem mm_applies {T : ℕ → ℝ} {g n k : ℕ} {a b : FVec Ideal S128x128 .f32} (ha : Applies T g n a) (hb : Applies T (g + n) k b) : Applies T g (n + k) (mm a b) := by
  intro i l
  rw [mm_apply]
  refine (Finset.sum_congr rfl fun j _ => by rw [ha i j, hb j l]).trans ?_
  rw [sum_coe, mat_mul]

/-- One block on its own. -/
theorem block_applies {T : ℕ → ℝ} (q : S8x128x128.Idx → EReal) (hq : Upto T 32 q) (c : Fin 8) (g : ℕ) (hg : 32 * c.val = g) : Applies T g 32 (block (F := Ideal) q c) := by
  intro i l
  subst hg
  refine Eq.trans ?_ (hq c i l)
  exact congrArg q (funext fun a => match a with | ⟨0, _⟩ => rfl | ⟨1, _⟩ => rfl | ⟨2, _⟩ => rfl)

/-- The product of the eight blocks applies all 256 groups. -/
theorem tree_applies {T : ℕ → ℝ} (q : S8x128x128.Idx → EReal) (hq : Upto T 32 q) : Applies T 0 256 (tree (F := Ideal) q) := by
  have h0 := block_applies q hq 0 0 rfl
  have h1 := block_applies q hq 1 32 rfl
  have h2 := block_applies q hq 2 64 rfl
  have h3 := block_applies q hq 3 96 rfl
  have h4 := block_applies q hq 4 128 rfl
  have h5 := block_applies q hq 5 160 rfl
  have h6 := block_applies q hq 6 192 rfl
  have h7 := block_applies q hq 7 224 rfl
  have p0 : Applies T 0 64 _ := mm_applies (g := 0) (n := 32) (k := 32) h0 h1
  have p1 : Applies T 64 64 _ := mm_applies (g := 64) (n := 32) (k := 32) h2 h3
  have p2 : Applies T 128 64 _ := mm_applies (g := 128) (n := 32) (k := 32) h4 h5
  have p3 : Applies T 192 64 _ := mm_applies (g := 192) (n := 32) (k := 32) h6 h7
  have r0 : Applies T 0 128 _ := mm_applies (g := 0) (n := 64) (k := 64) p0 p1
  have r1 : Applies T 128 128 _ := mm_applies (g := 128) (n := 64) (k := 64) p2 p3
  exact mm_applies (g := 0) (n := 128) (k := 128) r0 r1

/-- The matrix the kernel builds applies all 256 groups. -/
theorem qmat_applies {T : ℕ → ℝ} {x1 : S256.Idx → BitVec 32} {x2 : S64x128.Idx → EReal} {x3 x4 : S256x128.Idx → EReal} (G : Given T x1 x2 x3 x4) :
    Applies T 0 256 (qmat (F := Ideal) x1 x2 x3 x4) :=
  tree_applies _ (blocks_upto T _ _ (coefs G) 4 (Nat.le_refl 4))

/-- One entry of a tile of the result: the row's groups applied, plus the bias. -/
theorem pay4_apply {T : ℕ → ℝ} (X : FVec Ideal S8192x128 .f32) (M : FVec Ideal S128x128 .f32) (hM : Applies T 0 256 M) (B : FVec Ideal S1x128 .f32)
    (i : Fin 8192) (l : Fin 128) (v : ℕ → ℝ) (hv : ∀ k, 128 ≤ k → v k = 0) (hX : ∀ k : Fin 128, X (ix2 i k) = ((v k : ℝ) : EReal)) :
    k0_pay4 (F := Ideal) X M B (ix2 i l) = (((lays T 0 256 v l : ℝ) : EReal) + B (ix2 (0 : Fin 1) l) : EReal) := by
  unfold k0_pay4
  rw [ValueIdx.addf_apply, shapeCast_self]
  refine congrArg₂ (fun y z : EReal => y + z) ?_ ?_
  · refine (Ideal.matmul_apply₁_of dot_S8192x128_S128x128_S8192x128_1_0_0_1_n_n rfl rfl X M _ (ix2 i l) (fun k => ix2 i k) (fun k => ix2 k l)
      (fun k => by funext a; match a with | ⟨0, _⟩ => rfl | ⟨1, _⟩ => rfl) (fun k => by funext a; match a with | ⟨0, _⟩ => rfl | ⟨1, _⟩ => rfl)).trans ?_
    show Ideal.ofBits .f32 0x00000000#32 + _ = _
    rw [zero_word, EReal.coe_zero, zero_add]
    refine (Finset.sum_congr rfl fun j _ => by rw [hX j, hM j l]).trans ?_
    exact (sum_coe (fun j => v j) fun j => lays T 0 256 (unit j) l).trans (congrArg _ (row_mul T 0 256 v hv l))
  · exact broadcastTo_apply _ broadcasts_S1x128_S8192x128 _ (ix2 (0 : Fin 1) l) (by
      intro a; match a with | ⟨0, _⟩ => rfl | ⟨1, _⟩ => rfl)

end Cert.Proof.KI
end
-- ==== Proof.TablesPick.lean ====
/- A literal table is stored as a tree of choices on a digit below 128: what one choice yields. -/
module

public import proofs.«01_k».proof.KernelIdeal
public import proofs.«01_k».proof.Proof.Tables

@[expose] public section

set_option maxRecDepth 10000

noncomputable section

namespace Cert.Proof.Tables

open Cert.Proof.Wires

/-- A property of every entry of a list, each with its position counted from `k`. -/
def Holds (Q : ℕ → BitVec 32 → Prop) : ℕ → List (BitVec 32) → Prop
  | _, [] => True
  | k, b :: l => Q k b ∧ Holds Q (k + 1) l

/-- Such a property holds of the entry at a position. -/
theorem Holds.get {Q : ℕ → BitVec 32 → Prop} : ∀ {l : List (BitVec 32)} {k : ℕ}, Holds Q k l → ∀ n (hn : n < l.length), Q (k + n) l[n]
  | _ :: _, _, h, 0, _ => h.1
  | _ :: l, k, h, n + 1, hn => by
    have := Holds.get h.2 n (Nat.lt_of_succ_lt_succ hn)
    rw [Nat.add_assoc, Nat.add_comm 1 n] at this
    exact this

/-- Every entry of a list is what a function gives at its position, checked in one pass. -/
def agrees (f : ℕ → BitVec 32) : ℕ → List (BitVec 32) → Bool
  | _, [] => true
  | k, b :: l => b == f k && agrees f (k + 1) l

/-- What the pass checks. -/
theorem holds_of_agrees (f : ℕ → BitVec 32) : ∀ (l : List (BitVec 32)) (k : ℕ), agrees f k l = true → Holds (fun n b => b = f n) k l
  | [], _, _ => trivial
  | _ :: l, k, h => by
    unfold agrees at h
    rw [Bool.and_eq_true] at h
    exact ⟨eq_of_beq h.1, holds_of_agrees f l (k + 1) h.2⟩

/-- A choice of the tables' first part has a property that all its entries have. -/
theorem choiceA {h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 : Unit → BitVec 32} {d : ℕ → BitVec 32} (Q : ℕ → BitVec 32 → Prop) (n : ℕ) (hn : n < 128)
    (H : Holds Q 0 [h0 (), h1 (), h2 (), h3 (), h4 (), h5 (), h6 (), h7 (), h8 (), h9 (), h10 (), h11 (), h12 (), h13 (), h14 (), h15 (), h16 (), h17 (), h18 (), h19 (), h20 (), h21 (), h22 (), h23 (), h24 (), h25 (), h26 (), h27 (), h28 (), h29 (), h30 (), h31 (), h32 (), h33 (), h34 (), h35 (), h36 (), h37 (), h38 (), h39 (), h40 (), h41 (), h42 (), h43 (), h44 (), h45 (), h46 (), h47 (), h48 (), h49 (), h50 (), h51 (), h52 (), h53 (), h54 (), h55 (), h56 (), h57 (), h58 (), h59 (), h60 (), h61 (), h62 (), h63 (), h64 (), h65 (), h66 (), h67 (), h68 (), h69 (), h70 (), h71 (), h72 (), h73 (), h74 (), h75 (), h76 (), h77 (), h78 (), h79 (), h80 (), h81 (), h82 (), h83 (), h84 (), h85 (), h86 (), h87 (), h88 (), h89 (), h90 (), h91 (), h92 (), h93 (), h94 (), h95 (), h96 (), h97 (), h98 (), h99 (), h100 (), h101 (), h102 (), h103 (), h104 (), h105 (), h106 (), h107 (), h108 (), h109 (), h110 (), h111 (), h112 (), h113 (), h114 (), h115 (), h116 (), h117 (), h118 (), h119 (), h120 (), h121 (), h122 (), h123 (), h124 (), h125 (), h126 (), h127 ()]) :
    Q n (KernelIdeal.lit1t0_0.match_1 (fun _ => BitVec 32) n h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 d) := by
  have h := H.get n hn
  rw [Nat.zero_add] at h
  interval_cases n <;> exact h

/-- A choice of the tables' first part whose entries are what a function gives. -/
theorem leafA {h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 : Unit → BitVec 32} {d : ℕ → BitVec 32} (f : ℕ → BitVec 32) (i : ℕ)
    (H : agrees f 0 [h0 (), h1 (), h2 (), h3 (), h4 (), h5 (), h6 (), h7 (), h8 (), h9 (), h10 (), h11 (), h12 (), h13 (), h14 (), h15 (), h16 (), h17 (), h18 (), h19 (), h20 (), h21 (), h22 (), h23 (), h24 (), h25 (), h26 (), h27 (), h28 (), h29 (), h30 (), h31 (), h32 (), h33 (), h34 (), h35 (), h36 (), h37 (), h38 (), h39 (), h40 (), h41 (), h42 (), h43 (), h44 (), h45 (), h46 (), h47 (), h48 (), h49 (), h50 (), h51 (), h52 (), h53 (), h54 (), h55 (), h56 (), h57 (), h58 (), h59 (), h60 (), h61 (), h62 (), h63 (), h64 (), h65 (), h66 (), h67 (), h68 (), h69 (), h70 (), h71 (), h72 (), h73 (), h74 (), h75 (), h76 (), h77 (), h78 (), h79 (), h80 (), h81 (), h82 (), h83 (), h84 (), h85 (), h86 (), h87 (), h88 (), h89 (), h90 (), h91 (), h92 (), h93 (), h94 (), h95 (), h96 (), h97 (), h98 (), h99 (), h100 (), h101 (), h102 (), h103 (), h104 (), h105 (), h106 (), h107 (), h108 (), h109 (), h110 (), h111 (), h112 (), h113 (), h114 (), h115 (), h116 (), h117 (), h118 (), h119 (), h120 (), h121 (), h122 (), h123 (), h124 (), h125 (), h126 (), h127 ()] = true) :
    KernelIdeal.lit1t0_0.match_1 (fun _ => BitVec 32) (i % 128) h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 d = f (i % 128) :=
  choiceA (fun n b => b = f n) _ (Nat.mod_lt _ (by decide)) (holds_of_agrees f _ 0 H)

/-- A choice of the tables' second part has a property that all its entries have. -/
theorem choiceB {h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 : Unit → BitVec 32} {d : ℕ → BitVec 32} (Q : ℕ → BitVec 32 → Prop) (n : ℕ) (hn : n < 128)
    (H : Holds Q 0 [h0 (), h1 (), h2 (), h3 (), h4 (), h5 (), h6 (), h7 (), h8 (), h9 (), h10 (), h11 (), h12 (), h13 (), h14 (), h15 (), h16 (), h17 (), h18 (), h19 (), h20 (), h21 (), h22 (), h23 (), h24 (), h25 (), h26 (), h27 (), h28 (), h29 (), h30 (), h31 (), h32 (), h33 (), h34 (), h35 (), h36 (), h37 (), h38 (), h39 (), h40 (), h41 (), h42 (), h43 (), h44 (), h45 (), h46 (), h47 (), h48 (), h49 (), h50 (), h51 (), h52 (), h53 (), h54 (), h55 (), h56 (), h57 (), h58 (), h59 (), h60 (), h61 (), h62 (), h63 (), h64 (), h65 (), h66 (), h67 (), h68 (), h69 (), h70 (), h71 (), h72 (), h73 (), h74 (), h75 (), h76 (), h77 (), h78 (), h79 (), h80 (), h81 (), h82 (), h83 (), h84 (), h85 (), h86 (), h87 (), h88 (), h89 (), h90 (), h91 (), h92 (), h93 (), h94 (), h95 (), h96 (), h97 (), h98 (), h99 (), h100 (), h101 (), h102 (), h103 (), h104 (), h105 (), h106 (), h107 (), h108 (), h109 (), h110 (), h111 (), h112 (), h113 (), h114 (), h115 (), h116 (), h117 (), h118 (), h119 (), h120 (), h121 (), h122 (), h123 (), h124 (), h125 (), h126 (), h127 ()]) :
    Q n (KernelIdeal.lit1t0_173.match_1 (fun _ => BitVec 32) n h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 d) := by
  have h := H.get n hn
  rw [Nat.zero_add] at h
  interval_cases n <;> exact h

/-- A choice of the tables' second part whose entries are what a function gives. -/
theorem leafB {h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 : Unit → BitVec 32} {d : ℕ → BitVec 32} (f : ℕ → BitVec 32) (i : ℕ)
    (H : agrees f 0 [h0 (), h1 (), h2 (), h3 (), h4 (), h5 (), h6 (), h7 (), h8 (), h9 (), h10 (), h11 (), h12 (), h13 (), h14 (), h15 (), h16 (), h17 (), h18 (), h19 (), h20 (), h21 (), h22 (), h23 (), h24 (), h25 (), h26 (), h27 (), h28 (), h29 (), h30 (), h31 (), h32 (), h33 (), h34 (), h35 (), h36 (), h37 (), h38 (), h39 (), h40 (), h41 (), h42 (), h43 (), h44 (), h45 (), h46 (), h47 (), h48 (), h49 (), h50 (), h51 (), h52 (), h53 (), h54 (), h55 (), h56 (), h57 (), h58 (), h59 (), h60 (), h61 (), h62 (), h63 (), h64 (), h65 (), h66 (), h67 (), h68 (), h69 (), h70 (), h71 (), h72 (), h73 (), h74 (), h75 (), h76 (), h77 (), h78 (), h79 (), h80 (), h81 (), h82 (), h83 (), h84 (), h85 (), h86 (), h87 (), h88 (), h89 (), h90 (), h91 (), h92 (), h93 (), h94 (), h95 (), h96 (), h97 (), h98 (), h99 (), h100 (), h101 (), h102 (), h103 (), h104 (), h105 (), h106 (), h107 (), h108 (), h109 (), h110 (), h111 (), h112 (), h113 (), h114 (), h115 (), h116 (), h117 (), h118 (), h119 (), h120 (), h121 (), h122 (), h123 (), h124 (), h125 (), h126 (), h127 ()] = true) :
    KernelIdeal.lit1t0_173.match_1 (fun _ => BitVec 32) (i % 128) h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 d = f (i % 128) :=
  choiceB (fun n b => b = f n) _ (Nat.mod_lt _ (by decide)) (holds_of_agrees f _ 0 H)

/-- A choice of the tables' third part has a property that all its entries have. -/
theorem choiceC {h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 : Unit → BitVec 32} {d : ℕ → BitVec 32} (Q : ℕ → BitVec 32 → Prop) (n : ℕ) (hn : n < 128)
    (H : Holds Q 0 [h0 (), h1 (), h2 (), h3 (), h4 (), h5 (), h6 (), h7 (), h8 (), h9 (), h10 (), h11 (), h12 (), h13 (), h14 (), h15 (), h16 (), h17 (), h18 (), h19 (), h20 (), h21 (), h22 (), h23 (), h24 (), h25 (), h26 (), h27 (), h28 (), h29 (), h30 (), h31 (), h32 (), h33 (), h34 (), h35 (), h36 (), h37 (), h38 (), h39 (), h40 (), h41 (), h42 (), h43 (), h44 (), h45 (), h46 (), h47 (), h48 (), h49 (), h50 (), h51 (), h52 (), h53 (), h54 (), h55 (), h56 (), h57 (), h58 (), h59 (), h60 (), h61 (), h62 (), h63 (), h64 (), h65 (), h66 (), h67 (), h68 (), h69 (), h70 (), h71 (), h72 (), h73 (), h74 (), h75 (), h76 (), h77 (), h78 (), h79 (), h80 (), h81 (), h82 (), h83 (), h84 (), h85 (), h86 (), h87 (), h88 (), h89 (), h90 (), h91 (), h92 (), h93 (), h94 (), h95 (), h96 (), h97 (), h98 (), h99 (), h100 (), h101 (), h102 (), h103 (), h104 (), h105 (), h106 (), h107 (), h108 (), h109 (), h110 (), h111 (), h112 (), h113 (), h114 (), h115 (), h116 (), h117 (), h118 (), h119 (), h120 (), h121 (), h122 (), h123 (), h124 (), h125 (), h126 (), h127 ()]) :
    Q n (KernelIdeal.lit2t0_113.match_1 (fun _ => BitVec 32) n h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 d) := by
  have h := H.get n hn
  rw [Nat.zero_add] at h
  interval_cases n <;> exact h

/-- A choice of the tables' third part whose entries are what a function gives. -/
theorem leafC {h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 : Unit → BitVec 32} {d : ℕ → BitVec 32} (f : ℕ → BitVec 32) (i : ℕ)
    (H : agrees f 0 [h0 (), h1 (), h2 (), h3 (), h4 (), h5 (), h6 (), h7 (), h8 (), h9 (), h10 (), h11 (), h12 (), h13 (), h14 (), h15 (), h16 (), h17 (), h18 (), h19 (), h20 (), h21 (), h22 (), h23 (), h24 (), h25 (), h26 (), h27 (), h28 (), h29 (), h30 (), h31 (), h32 (), h33 (), h34 (), h35 (), h36 (), h37 (), h38 (), h39 (), h40 (), h41 (), h42 (), h43 (), h44 (), h45 (), h46 (), h47 (), h48 (), h49 (), h50 (), h51 (), h52 (), h53 (), h54 (), h55 (), h56 (), h57 (), h58 (), h59 (), h60 (), h61 (), h62 (), h63 (), h64 (), h65 (), h66 (), h67 (), h68 (), h69 (), h70 (), h71 (), h72 (), h73 (), h74 (), h75 (), h76 (), h77 (), h78 (), h79 (), h80 (), h81 (), h82 (), h83 (), h84 (), h85 (), h86 (), h87 (), h88 (), h89 (), h90 (), h91 (), h92 (), h93 (), h94 (), h95 (), h96 (), h97 (), h98 (), h99 (), h100 (), h101 (), h102 (), h103 (), h104 (), h105 (), h106 (), h107 (), h108 (), h109 (), h110 (), h111 (), h112 (), h113 (), h114 (), h115 (), h116 (), h117 (), h118 (), h119 (), h120 (), h121 (), h122 (), h123 (), h124 (), h125 (), h126 (), h127 ()] = true) :
    KernelIdeal.lit2t0_113.match_1 (fun _ => BitVec 32) (i % 128) h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 d = f (i % 128) :=
  choiceC (fun n b => b = f n) _ (Nat.mod_lt _ (by decide)) (holds_of_agrees f _ 0 H)

end Cert.Proof.Tables
end
-- ==== Proof.TablesMask.lean ====
/- The kernel's mask of turned lanes, read as the groups of the network. -/
module

public import proofs.«01_k».proof.KernelIdeal
public import proofs.«01_k».proof.Proof.TablesPick

@[expose] public section

set_option maxRecDepth 10000

noncomputable section

namespace Cert.Proof.Tables

open Cert.Proof.Wires

/-- One where the row's group turns the lane, as a word. -/
def turned (r l : ℕ) : BitVec 32 := if act (grp r) l then 0x3F800000#32 else 0#32

/-- Half 0 of the table. -/
theorem lit1t1_0_eq (i : ℕ) : KernelIdeal.lit1t1_0 i = turned (0 + i / 128 % 128) (i % 128) :=
  choiceB (fun n b => b = turned (0 + n) (i % 128)) _ (Nat.mod_lt _ (by decide))
    ⟨leafA (turned 0) i (by decide +kernel), leafA (turned 1) i (by decide +kernel), leafA (turned 2) i (by decide +kernel), leafA (turned 3) i (by decide +kernel), leafA (turned 4) i (by decide +kernel), leafA (turned 5) i (by decide +kernel), leafA (turned 6) i (by decide +kernel), leafA (turned 7) i (by decide +kernel), leafA (turned 8) i (by decide +kernel), leafA (turned 9) i (by decide +kernel), leafA (turned 10) i (by decide +kernel), leafA (turned 11) i (by decide +kernel), leafA (turned 12) i (by decide +kernel), leafA (turned 13) i (by decide +kernel), leafA (turned 14) i (by decide +kernel), leafA (turned 15) i (by decide +kernel), leafA (turned 16) i (by decide +kernel), leafA (turned 17) i (by decide +kernel), leafA (turned 18) i (by decide +kernel), leafA (turned 19) i (by decide +kernel), leafA (turned 20) i (by decide +kernel), leafA (turned 21) i (by decide +kernel), leafA (turned 22) i (by decide +kernel), leafA (turned 23) i (by decide +kernel), leafA (turned 24) i (by decide +kernel), leafA (turned 25) i (by decide +kernel), leafA (turned 26) i (by decide +kernel), leafA (turned 27) i (by decide +kernel), leafA (turned 28) i (by decide +kernel), leafA (turned 29) i (by decide +kernel), leafA (turned 30) i (by decide +kernel), leafA (turned 31) i (by decide +kernel), leafA (turned 32) i (by decide +kernel), leafA (turned 33) i (by decide +kernel), leafA (turned 34) i (by decide +kernel), leafA (turned 35) i (by decide +kernel), leafA (turned 36) i (by decide +kernel), leafA (turned 37) i (by decide +kernel), leafA (turned 38) i (by decide +kernel), leafA (turned 39) i (by decide +kernel), leafA (turned 40) i (by decide +kernel), leafA (turned 41) i (by decide +kernel), leafA (turned 42) i (by decide +kernel), leafA (turned 43) i (by decide +kernel), leafA (turned 44) i (by decide +kernel), leafA (turned 45) i (by decide +kernel), leafA (turned 46) i (by decide +kernel), leafA (turned 47) i (by decide +kernel), leafA (turned 48) i (by decide +kernel), leafA (turned 49) i (by decide +kernel), leafA (turned 50) i (by decide +kernel), leafA (turned 51) i (by decide +kernel), leafA (turned 52) i (by decide +kernel), leafA (turned 53) i (by decide +kernel), leafA (turned 54) i (by decide +kernel), leafA (turned 55) i (by decide +kernel), leafA (turned 56) i (by decide +kernel), leafA (turned 57) i (by decide +kernel), leafA (turned 58) i (by decide +kernel), leafA (turned 59) i (by decide +kernel), leafA (turned 60) i (by decide +kernel), leafA (turned 61) i (by decide +kernel), leafA (turned 62) i (by decide +kernel), leafA (turned 63) i (by decide +kernel), leafA (turned 64) i (by decide +kernel), leafA (turned 65) i (by decide +kernel), leafA (turned 66) i (by decide +kernel), leafA (turned 67) i (by decide +kernel), leafA (turned 68) i (by decide +kernel), leafA (turned 69) i (by decide +kernel), leafA (turned 70) i (by decide +kernel), leafA (turned 71) i (by decide +kernel), leafA (turned 72) i (by decide +kernel), leafA (turned 73) i (by decide +kernel), leafA (turned 74) i (by decide +kernel), leafA (turned 75) i (by decide +kernel), leafA (turned 76) i (by decide +kernel), leafA (turned 77) i (by decide +kernel), leafA (turned 78) i (by decide +kernel), leafA (turned 79) i (by decide +kernel), leafA (turned 80) i (by decide +kernel), leafA (turned 81) i (by decide +kernel), leafA (turned 82) i (by decide +kernel), leafA (turned 83) i (by decide +kernel), leafA (turned 84) i (by decide +kernel), leafA (turned 85) i (by decide +kernel), leafA (turned 86) i (by decide +kernel), leafA (turned 87) i (by decide +kernel), leafA (turned 88) i (by decide +kernel), leafA (turned 89) i (by decide +kernel), leafA (turned 90) i (by decide +kernel), leafA (turned 91) i (by decide +kernel), leafA (turned 92) i (by decide +kernel), leafA (turned 93) i (by decide +kernel), leafA (turned 94) i (by decide +kernel), leafA (turned 95) i (by decide +kernel), leafA (turned 96) i (by decide +kernel), leafA (turned 97) i (by decide +kernel), leafA (turned 98) i (by decide +kernel), leafA (turned 99) i (by decide +kernel), leafA (turned 100) i (by decide +kernel), leafA (turned 101) i (by decide +kernel), leafA (turned 102) i (by decide +kernel), leafA (turned 103) i (by decide +kernel), leafA (turned 104) i (by decide +kernel), leafA (turned 105) i (by decide +kernel), leafA (turned 106) i (by decide +kernel), leafA (turned 107) i (by decide +kernel), leafA (turned 108) i (by decide +kernel), leafA (turned 109) i (by decide +kernel), leafA (turned 110) i (by decide +kernel), leafA (turned 111) i (by decide +kernel), leafA (turned 112) i (by decide +kernel), leafA (turned 113) i (by decide +kernel), leafA (turned 114) i (by decide +kernel), leafA (turned 115) i (by decide +kernel), leafA (turned 116) i (by decide +kernel), leafA (turned 117) i (by decide +kernel), leafA (turned 118) i (by decide +kernel), leafA (turned 119) i (by decide +kernel), leafA (turned 120) i (by decide +kernel), leafA (turned 121) i (by decide +kernel), leafA (turned 122) i (by decide +kernel), leafA (turned 123) i (by decide +kernel), leafA (turned 124) i (by decide +kernel), leafA (turned 125) i (by decide +kernel), leafA (turned 126) i (by decide +kernel), leafA (turned 127) i (by decide +kernel), trivial⟩

/-- Half 1 of the table. -/
theorem lit1t1_1_eq (i : ℕ) : KernelIdeal.lit1t1_1 i = turned (128 + i / 128 % 128) (i % 128) :=
  choiceB (fun n b => b = turned (128 + n) (i % 128)) _ (Nat.mod_lt _ (by decide))
    ⟨leafA (turned 128) i (by decide +kernel), leafA (turned 129) i (by decide +kernel), leafA (turned 130) i (by decide +kernel), leafA (turned 131) i (by decide +kernel), leafA (turned 132) i (by decide +kernel), leafA (turned 133) i (by decide +kernel), leafA (turned 134) i (by decide +kernel), leafA (turned 135) i (by decide +kernel), leafA (turned 136) i (by decide +kernel), leafA (turned 137) i (by decide +kernel), leafA (turned 138) i (by decide +kernel), leafA (turned 139) i (by decide +kernel), leafA (turned 140) i (by decide +kernel), leafA (turned 141) i (by decide +kernel), leafA (turned 142) i (by decide +kernel), leafA (turned 143) i (by decide +kernel), leafA (turned 144) i (by decide +kernel), leafA (turned 145) i (by decide +kernel), leafA (turned 146) i (by decide +kernel), leafA (turned 147) i (by decide +kernel), leafA (turned 148) i (by decide +kernel), leafA (turned 149) i (by decide +kernel), leafA (turned 150) i (by decide +kernel), leafA (turned 151) i (by decide +kernel), leafA (turned 152) i (by decide +kernel), leafA (turned 153) i (by decide +kernel), leafA (turned 154) i (by decide +kernel), leafA (turned 155) i (by decide +kernel), leafA (turned 156) i (by decide +kernel), leafA (turned 157) i (by decide +kernel), leafA (turned 158) i (by decide +kernel), leafA (turned 159) i (by decide +kernel), leafA (turned 160) i (by decide +kernel), leafA (turned 161) i (by decide +kernel), leafA (turned 162) i (by decide +kernel), leafA (turned 163) i (by decide +kernel), leafA (turned 164) i (by decide +kernel), leafA (turned 165) i (by decide +kernel), leafA (turned 166) i (by decide +kernel), leafA (turned 167) i (by decide +kernel), leafA (turned 168) i (by decide +kernel), leafA (turned 169) i (by decide +kernel), leafA (turned 170) i (by decide +kernel), leafA (turned 171) i (by decide +kernel), leafA (turned 172) i (by decide +kernel), leafB (turned 173) i (by decide +kernel), leafB (turned 174) i (by decide +kernel), leafB (turned 175) i (by decide +kernel), leafB (turned 176) i (by decide +kernel), leafB (turned 177) i (by decide +kernel), leafB (turned 178) i (by decide +kernel), leafB (turned 179) i (by decide +kernel), leafB (turned 180) i (by decide +kernel), leafB (turned 181) i (by decide +kernel), leafB (turned 182) i (by decide +kernel), leafB (turned 183) i (by decide +kernel), leafB (turned 184) i (by decide +kernel), leafB (turned 185) i (by decide +kernel), leafB (turned 186) i (by decide +kernel), leafB (turned 187) i (by decide +kernel), leafB (turned 188) i (by decide +kernel), leafB (turned 189) i (by decide +kernel), leafB (turned 190) i (by decide +kernel), leafB (turned 191) i (by decide +kernel), leafB (turned 192) i (by decide +kernel), leafB (turned 193) i (by decide +kernel), leafB (turned 194) i (by decide +kernel), leafB (turned 195) i (by decide +kernel), leafB (turned 196) i (by decide +kernel), leafB (turned 197) i (by decide +kernel), leafB (turned 198) i (by decide +kernel), leafB (turned 199) i (by decide +kernel), leafB (turned 200) i (by decide +kernel), leafB (turned 201) i (by decide +kernel), leafB (turned 202) i (by decide +kernel), leafB (turned 203) i (by decide +kernel), leafB (turned 204) i (by decide +kernel), leafB (turned 205) i (by decide +kernel), leafB (turned 206) i (by decide +kernel), leafB (turned 207) i (by decide +kernel), leafB (turned 208) i (by decide +kernel), leafB (turned 209) i (by decide +kernel), leafB (turned 210) i (by decide +kernel), leafB (turned 211) i (by decide +kernel), leafB (turned 212) i (by decide +kernel), leafB (turned 213) i (by decide +kernel), leafB (turned 214) i (by decide +kernel), leafB (turned 215) i (by decide +kernel), leafB (turned 216) i (by decide +kernel), leafB (turned 217) i (by decide +kernel), leafB (turned 218) i (by decide +kernel), leafB (turned 219) i (by decide +kernel), leafB (turned 220) i (by decide +kernel), leafB (turned 221) i (by decide +kernel), leafB (turned 222) i (by decide +kernel), leafB (turned 223) i (by decide +kernel), leafB (turned 224) i (by decide +kernel), leafB (turned 225) i (by decide +kernel), leafB (turned 226) i (by decide +kernel), leafB (turned 227) i (by decide +kernel), leafB (turned 228) i (by decide +kernel), leafB (turned 229) i (by decide +kernel), leafB (turned 230) i (by decide +kernel), leafB (turned 231) i (by decide +kernel), leafB (turned 232) i (by decide +kernel), leafB (turned 233) i (by decide +kernel), leafB (turned 234) i (by decide +kernel), leafB (turned 235) i (by decide +kernel), leafB (turned 236) i (by decide +kernel), leafB (turned 237) i (by decide +kernel), leafB (turned 238) i (by decide +kernel), leafB (turned 239) i (by decide +kernel), leafB (turned 240) i (by decide +kernel), leafB (turned 241) i (by decide +kernel), leafB (turned 242) i (by decide +kernel), leafB (turned 243) i (by decide +kernel), leafB (turned 244) i (by decide +kernel), leafB (turned 245) i (by decide +kernel), leafB (turned 246) i (by decide +kernel), leafB (turned 247) i (by decide +kernel), leafB (turned 248) i (by decide +kernel), leafB (turned 249) i (by decide +kernel), leafB (turned 250) i (by decide +kernel), leafB (turned 251) i (by decide +kernel), leafB (turned 252) i (by decide +kernel), leafB (turned 253) i (by decide +kernel), leafB (turned 254) i (by decide +kernel), leafB (turned 255) i (by decide +kernel), trivial⟩

/-- The first mask marks the lanes that the row's group turns. -/
theorem mask_eq (r : Fin 256) (l : Fin 128) : KernelIdeal.lit1 ⟨r.val * 128 + l.val, by omega⟩ = if act (grp r) l then 0x3F800000#32 else 0#32 := by
  have e2 : (r.val * 128 + l.val) % 128 = l.val := by omega
  show KernelIdeal.lit1t (r.val * 128 + l.val) = turned r l
  unfold KernelIdeal.lit1t
  by_cases hr : r.val < 128
  · rw [show (r.val * 128 + l.val) / 16384 = 0 by omega]
    refine (lit1t1_0_eq _).trans ?_
    rw [e2, show 0 + (r.val * 128 + l.val) / 128 % 128 = r.val by omega]
  · rw [show (r.val * 128 + l.val) / 16384 = 1 by omega]
    refine (lit1t1_1_eq _).trans ?_
    rw [e2, show 128 + (r.val * 128 + l.val) / 128 % 128 = r.val by omega]

end Cert.Proof.Tables
end
-- ==== Proof.TablesLeft.lean ====
/- The kernel's mask of left lanes, read as the groups of the network. -/
module

public import proofs.«01_k».proof.KernelIdeal
public import proofs.«01_k».proof.Proof.TablesPick

@[expose] public section

set_option maxRecDepth 10000

noncomputable section

namespace Cert.Proof.Tables

open Cert.Proof.Wires

/-- One where the lane is the left one of a turned pair, as a word. -/
def left (r l : ℕ) : BitVec 32 := if act (grp r) l ∧ (l - grp r % 2) % 2 = 0 then 0x3F800000#32 else 0#32

/-- Half 0 of the table. -/
theorem lit2t1_0_eq (i : ℕ) : KernelIdeal.lit2t1_0 i = left (0 + i / 128 % 128) (i % 128) :=
  choiceC (fun n b => b = left (0 + n) (i % 128)) _ (Nat.mod_lt _ (by decide))
    ⟨leafB (left 0) i (by decide +kernel), leafB (left 1) i (by decide +kernel), leafB (left 2) i (by decide +kernel), leafB (left 3) i (by decide +kernel), leafB (left 4) i (by decide +kernel), leafB (left 5) i (by decide +kernel), leafB (left 6) i (by decide +kernel), leafB (left 7) i (by decide +kernel), leafB (left 8) i (by decide +kernel), leafB (left 9) i (by decide +kernel), leafB (left 10) i (by decide +kernel), leafB (left 11) i (by decide +kernel), leafB (left 12) i (by decide +kernel), leafB (left 13) i (by decide +kernel), leafB (left 14) i (by decide +kernel), leafB (left 15) i (by decide +kernel), leafB (left 16) i (by decide +kernel), leafB (left 17) i (by decide +kernel), leafB (left 18) i (by decide +kernel), leafB (left 19) i (by decide +kernel), leafB (left 20) i (by decide +kernel), leafB (left 21) i (by decide +kernel), leafB (left 22) i (by decide +kernel), leafB (left 23) i (by decide +kernel), leafB (left 24) i (by decide +kernel), leafB (left 25) i (by decide +kernel), leafB (left 26) i (by decide +kernel), leafB (left 27) i (by decide +kernel), leafB (left 28) i (by decide +kernel), leafB (left 29) i (by decide +kernel), leafB (left 30) i (by decide +kernel), leafB (left 31) i (by decide +kernel), leafB (left 32) i (by decide +kernel), leafB (left 33) i (by decide +kernel), leafB (left 34) i (by decide +kernel), leafB (left 35) i (by decide +kernel), leafB (left 36) i (by decide +kernel), leafB (left 37) i (by decide +kernel), leafB (left 38) i (by decide +kernel), leafB (left 39) i (by decide +kernel), leafB (left 40) i (by decide +kernel), leafB (left 41) i (by decide +kernel), leafB (left 42) i (by decide +kernel), leafB (left 43) i (by decide +kernel), leafB (left 44) i (by decide +kernel), leafB (left 45) i (by decide +kernel), leafB (left 46) i (by decide +kernel), leafB (left 47) i (by decide +kernel), leafB (left 48) i (by decide +kernel), leafB (left 49) i (by decide +kernel), leafB (left 50) i (by decide +kernel), leafB (left 51) i (by decide +kernel), leafB (left 52) i (by decide +kernel), leafB (left 53) i (by decide +kernel), leafB (left 54) i (by decide +kernel), leafB (left 55) i (by decide +kernel), leafB (left 56) i (by decide +kernel), leafB (left 57) i (by decide +kernel), leafB (left 58) i (by decide +kernel), leafB (left 59) i (by decide +kernel), leafB (left 60) i (by decide +kernel), leafB (left 61) i (by decide +kernel), leafB (left 62) i (by decide +kernel), leafB (left 63) i (by decide +kernel), leafB (left 64) i (by decide +kernel), leafB (left 65) i (by decide +kernel), leafB (left 66) i (by decide +kernel), leafB (left 67) i (by decide +kernel), leafB (left 68) i (by decide +kernel), leafB (left 69) i (by decide +kernel), leafB (left 70) i (by decide +kernel), leafB (left 71) i (by decide +kernel), leafB (left 72) i (by decide +kernel), leafB (left 73) i (by decide +kernel), leafB (left 74) i (by decide +kernel), leafB (left 75) i (by decide +kernel), leafB (left 76) i (by decide +kernel), leafB (left 77) i (by decide +kernel), leafB (left 78) i (by decide +kernel), leafB (left 79) i (by decide +kernel), leafB (left 80) i (by decide +kernel), leafB (left 81) i (by decide +kernel), leafB (left 82) i (by decide +kernel), leafB (left 83) i (by decide +kernel), leafB (left 84) i (by decide +kernel), leafB (left 85) i (by decide +kernel), leafB (left 86) i (by decide +kernel), leafB (left 87) i (by decide +kernel), leafB (left 88) i (by decide +kernel), leafB (left 89) i (by decide +kernel), leafB (left 90) i (by decide +kernel), leafB (left 91) i (by decide +kernel), leafB (left 92) i (by decide +kernel), leafB (left 93) i (by decide +kernel), leafB (left 94) i (by decide +kernel), leafB (left 95) i (by decide +kernel), leafB (left 96) i (by decide +kernel), leafB (left 97) i (by decide +kernel), leafB (left 98) i (by decide +kernel), leafB (left 99) i (by decide +kernel), leafB (left 100) i (by decide +kernel), leafB (left 101) i (by decide +kernel), leafB (left 102) i (by decide +kernel), leafB (left 103) i (by decide +kernel), leafB (left 104) i (by decide +kernel), leafB (left 105) i (by decide +kernel), leafB (left 106) i (by decide +kernel), leafB (left 107) i (by decide +kernel), leafB (left 108) i (by decide +kernel), leafB (left 109) i (by decide +kernel), leafB (left 110) i (by decide +kernel), leafB (left 111) i (by decide +kernel), leafB (left 112) i (by decide +kernel), leafC (left 113) i (by decide +kernel), leafC (left 114) i (by decide +kernel), leafC (left 115) i (by decide +kernel), leafC (left 116) i (by decide +kernel), leafC (left 117) i (by decide +kernel), leafC (left 118) i (by decide +kernel), leafC (left 119) i (by decide +kernel), leafC (left 120) i (by decide +kernel), leafC (left 121) i (by decide +kernel), leafC (left 122) i (by decide +kernel), leafC (left 123) i (by decide +kernel), leafC (left 124) i (by decide +kernel), leafC (left 125) i (by decide +kernel), leafC (left 126) i (by decide +kernel), leafC (left 127) i (by decide +kernel), trivial⟩

/-- Half 1 of the table. -/
theorem lit2t1_1_eq (i : ℕ) : KernelIdeal.lit2t1_1 i = left (128 + i / 128 % 128) (i % 128) :=
  choiceC (fun n b => b = left (128 + n) (i % 128)) _ (Nat.mod_lt _ (by decide))
    ⟨leafC (left 128) i (by decide +kernel), leafC (left 129) i (by decide +kernel), leafC (left 130) i (by decide +kernel), leafC (left 131) i (by decide +kernel), leafC (left 132) i (by decide +kernel), leafC (left 133) i (by decide +kernel), leafC (left 134) i (by decide +kernel), leafC (left 135) i (by decide +kernel), leafC (left 136) i (by decide +kernel), leafC (left 137) i (by decide +kernel), leafC (left 138) i (by decide +kernel), leafC (left 139) i (by decide +kernel), leafC (left 140) i (by decide +kernel), leafC (left 141) i (by decide +kernel), leafC (left 142) i (by decide +kernel), leafC (left 143) i (by decide +kernel), leafC (left 144) i (by decide +kernel), leafC (left 145) i (by decide +kernel), leafC (left 146) i (by decide +kernel), leafC (left 147) i (by decide +kernel), leafC (left 148) i (by decide +kernel), leafC (left 149) i (by decide +kernel), leafC (left 150) i (by decide +kernel), leafC (left 151) i (by decide +kernel), leafC (left 152) i (by decide +kernel), leafC (left 153) i (by decide +kernel), leafC (left 154) i (by decide +kernel), leafC (left 155) i (by decide +kernel), leafC (left 156) i (by decide +kernel), leafC (left 157) i (by decide +kernel), leafC (left 158) i (by decide +kernel), leafC (left 159) i (by decide +kernel), leafC (left 160) i (by decide +kernel), leafC (left 161) i (by decide +kernel), leafC (left 162) i (by decide +kernel), leafC (left 163) i (by decide +kernel), leafC (left 164) i (by decide +kernel), leafC (left 165) i (by decide +kernel), leafC (left 166) i (by decide +kernel), leafC (left 167) i (by decide +kernel), leafC (left 168) i (by decide +kernel), leafC (left 169) i (by decide +kernel), leafC (left 170) i (by decide +kernel), leafC (left 171) i (by decide +kernel), leafC (left 172) i (by decide +kernel), leafC (left 173) i (by decide +kernel), leafC (left 174) i (by decide +kernel), leafC (left 175) i (by decide +kernel), leafC (left 176) i (by decide +kernel), leafC (left 177) i (by decide +kernel), leafC (left 178) i (by decide +kernel), leafC (left 179) i (by decide +kernel), leafC (left 180) i (by decide +kernel), leafC (left 181) i (by decide +kernel), leafC (left 182) i (by decide +kernel), leafC (left 183) i (by decide +kernel), leafC (left 184) i (by decide +kernel), leafC (left 185) i (by decide +kernel), leafC (left 186) i (by decide +kernel), leafC (left 187) i (by decide +kernel), leafC (left 188) i (by decide +kernel), leafC (left 189) i (by decide +kernel), leafC (left 190) i (by decide +kernel), leafC (left 191) i (by decide +kernel), leafC (left 192) i (by decide +kernel), leafC (left 193) i (by decide +kernel), leafC (left 194) i (by decide +kernel), leafC (left 195) i (by decide +kernel), leafC (left 196) i (by decide +kernel), leafC (left 197) i (by decide +kernel), leafC (left 198) i (by decide +kernel), leafC (left 199) i (by decide +kernel), leafC (left 200) i (by decide +kernel), leafC (left 201) i (by decide +kernel), leafC (left 202) i (by decide +kernel), leafC (left 203) i (by decide +kernel), leafC (left 204) i (by decide +kernel), leafC (left 205) i (by decide +kernel), leafC (left 206) i (by decide +kernel), leafC (left 207) i (by decide +kernel), leafC (left 208) i (by decide +kernel), leafC (left 209) i (by decide +kernel), leafC (left 210) i (by decide +kernel), leafC (left 211) i (by decide +kernel), leafC (left 212) i (by decide +kernel), leafC (left 213) i (by decide +kernel), leafC (left 214) i (by decide +kernel), leafC (left 215) i (by decide +kernel), leafC (left 216) i (by decide +kernel), leafC (left 217) i (by decide +kernel), leafC (left 218) i (by decide +kernel), leafC (left 219) i (by decide +kernel), leafC (left 220) i (by decide +kernel), leafC (left 221) i (by decide +kernel), leafC (left 222) i (by decide +kernel), leafC (left 223) i (by decide +kernel), leafC (left 224) i (by decide +kernel), leafC (left 225) i (by decide +kernel), leafC (left 226) i (by decide +kernel), leafC (left 227) i (by decide +kernel), leafC (left 228) i (by decide +kernel), leafC (left 229) i (by decide +kernel), leafC (left 230) i (by decide +kernel), leafC (left 231) i (by decide +kernel), leafC (left 232) i (by decide +kernel), leafC (left 233) i (by decide +kernel), leafC (left 234) i (by decide +kernel), leafC (left 235) i (by decide +kernel), leafC (left 236) i (by decide +kernel), leafC (left 237) i (by decide +kernel), leafC (left 238) i (by decide +kernel), leafC (left 239) i (by decide +kernel), leafC (left 240) i (by decide +kernel), leafC (left 241) i (by decide +kernel), leafC (left 242) i (by decide +kernel), leafC (left 243) i (by decide +kernel), leafC (left 244) i (by decide +kernel), leafC (left 245) i (by decide +kernel), leafC (left 246) i (by decide +kernel), leafC (left 247) i (by decide +kernel), leafC (left 248) i (by decide +kernel), leafC (left 249) i (by decide +kernel), leafC (left 250) i (by decide +kernel), leafC (left 251) i (by decide +kernel), leafC (left 252) i (by decide +kernel), leafC (left 253) i (by decide +kernel), leafC (left 254) i (by decide +kernel), leafC (left 255) i (by decide +kernel), trivial⟩

/-- The second mask marks the left lanes among the turned ones. -/
theorem left_eq (r : Fin 256) (l : Fin 128) : KernelIdeal.lit2 ⟨r.val * 128 + l.val, by omega⟩ = if act (grp r) l ∧ (l.val - grp r % 2) % 2 = 0 then 0x3F800000#32 else 0#32 := by
  have e2 : (r.val * 128 + l.val) % 128 = l.val := by omega
  show KernelIdeal.lit2t (r.val * 128 + l.val) = left r l
  unfold KernelIdeal.lit2t
  by_cases hr : r.val < 128
  · rw [show (r.val * 128 + l.val) / 16384 = 0 by omega]
    refine (lit2t1_0_eq _).trans ?_
    rw [e2, show 0 + (r.val * 128 + l.val) / 128 % 128 = r.val by omega]
  · rw [show (r.val * 128 + l.val) / 16384 = 1 by omega]
    refine (lit2t1_1_eq _).trans ?_
    rw [e2, show 128 + (r.val * 128 + l.val) / 128 % 128 = r.val by omega]

end Cert.Proof.Tables
end
-- ==== Proof.Result.lean ====
/- What both programs compute where the inputs and the angles are finite: each row turned by all the wires, plus the bias. -/
module

public import proofs.«01_k».proof.Pre_finite
public import proofs.«01_k».proof.Proof.Wires
public import Idealize.ShloMosaic.PureOps.Ideal
public import Idealize.ShloMosaic.Lib.ReduceAll
public import Idealize.ShloMosaic.Lib.Pointwise.Index
public import Idealize.ShloMosaic.Lib.Decide

@[expose] public section

noncomputable section

namespace Cert.Proof

open Idealize.ShloMosaic Cert.Proof.Wires

/-- The angles as reals. -/
def angles (θ : Pre_finite.S8128.Idx → EReal) : ℕ → ℝ := fun n => if h : n < 8128 then (θ (ix1 (⟨n, h⟩ : Fin 8128))).toReal else 0

/-- One row as reals. -/
def row (x : Pre_finite.S16384x128.Idx → EReal) (r : Fin 16384) : ℕ → ℝ := fun l => if h : l < 128 then (x (ix2 r (⟨l, h⟩ : Fin 128))).toReal else 0

/-- Each row turned by all the groups, plus the bias. -/
def result (x : Pre_finite.S16384x128.Idx → EReal) (θ : Pre_finite.S8128.Idx → EReal) (b : Pre_finite.S128.Idx → EReal) : Pre_finite.S16384x128.Idx → EReal :=
  fun i => (((lays (angles θ) 0 256 (row x (i 0)) (i 1).val : ℝ) : EReal) + b (ix1 (i 1)) : EReal)

/-- No entry is infinite. -/
def Finite {ι : Type} (x : ι → EReal) : Prop := ∀ i, x i ≠ ⊤ ∧ x i ≠ ⊥

/-- A finite angle is its real. -/
theorem angles_coe {θ : Pre_finite.S8128.Idx → EReal} (h : Finite θ) (n : Fin 8128) : θ (ix1 n) = ((angles θ n : ℝ) : EReal) := by
  unfold angles
  rw [dif_pos n.isLt]
  exact (EReal.coe_toReal (h _).1 (h _).2).symm

/-- A finite row is its reals. -/
theorem row_coe {x : Pre_finite.S16384x128.Idx → EReal} (h : Finite x) (r : Fin 16384) (l : Fin 128) : x (ix2 r l) = ((row x r l : ℝ) : EReal) := by
  unfold row
  rw [dif_pos l.isLt]
  exact (EReal.coe_toReal (h _).1 (h _).2).symm

/-- A row ends after 128 entries. -/
theorem row_beyond (x : Pre_finite.S16384x128.Idx → EReal) (r : Fin 16384) (l : ℕ) (h : 128 ≤ l) : row x r l = 0 := by
  unfold row
  rw [dif_neg (by omega)]

/-- The side conditions of the precondition. -/
theorem finite_facts : Pre_finite.Facts where
  bcast_S_S16384x128 := by decide
  reducesTo_S16384x128_S_d0_1 := by decide
  h_S_ := by decide
  bcast_S_S8128 := by decide
  reducesTo_S8128_S_d0 := by decide

/-- The word of infinity denotes infinity. -/
theorem inf_word : Ideal.ofBits .f32 0x7F800000#32 = (⊤ : EReal) := by
  simp [Ideal.ofBits, Ideal.ieee]

/-- An absolute value below infinity is that of a finite number. -/
theorem finite_of_lt (x : EReal) (h : Ideal.cmp .olt (max x (-x)) (⊤ : EReal) = 1#1) : x ≠ ⊤ ∧ x ≠ ⊥ := by
  have hlt : max x (-x) < ⊤ := by
    by_contra hn
    rw [Ideal.cmp] at h
    simp [hn] at h
  constructor
  · rintro rfl
    simp at hlt
  · rintro rfl
    simp at hlt

/-- Where the precondition holds, inputs and angles are finite. -/
theorem finite_of_pre [Pre_finite.Facts] (x : Pre_finite.S16384x128.Idx → EReal) (θ : Pre_finite.S8128.Idx → EReal) (b : Pre_finite.S128.Idx → EReal)
    (h : Pre_finite.fn (F := Ideal) x θ b = fun _ => 1#1) : Finite x ∧ Finite θ := by
  have h0 := congrFun h (fun a => a.elim0)
  unfold Pre_finite.fn at h0
  dsimp only at h0
  have : Subsingleton Pre_finite.S_.Idx := ⟨fun a b => funext fun i => i.elim0⟩
  have h1 := IntOp.andi_eq_one.1 h0
  refine ⟨fun i => ?_, fun i => ?_⟩
  · refine finite_of_lt _ ?_
    rw [← inf_word]
    exact Host.reduce_andi_all _ _ _ _ _ h1.1 i
  · refine finite_of_lt _ ?_
    rw [← inf_word]
    exact Host.reduce_andi_all _ _ _ _ _ h1.2 i

end Cert.Proof
end
-- ==== Proof.ValRun.lean ====
/- What the kernel's launch leaves in the result: each row turned by all the wires, plus the bias. -/
module

public import proofs.«01_k».proof.Proof.IdFrame
public import proofs.«01_k».proof.Proof.ValMat
public import proofs.«01_k».proof.Proof.TablesMask
public import proofs.«01_k».proof.Proof.TablesLeft
public import proofs.«01_k».proof.Proof.Result
public import Idealize.ShloMosaic.Lib.Pipeline.Value
public import Idealize.ShloMosaic.Lib.KernelVsHost

@[expose] public section

noncomputable section

namespace Cert.Proof.KI

open Cert.KernelIdeal Cert.KernelIdeal.Gen Cert.Proof.Wires
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- Which block of its array each window reads at a point. -/
theorem placed : ∀ t : Fin cfg0.N, win0_0.index t 0 = 0 ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = t.val ∧ win0_4.index t 1 = 0)
    ∧ (win0_5.index t 0 = 0 ∧ win0_5.index t 1 = 0) ∧ (win0_6.index t 0 = t.val ∧ win0_6.index t 1 = 0) :=
  (by decide +kernel : ∀ t : Fin grid0.N, _)

/-- There are two points. -/
theorem point_lt (t : Fin cfg0.N) : t.val < 2 := t.isLt

/-- A row of a point's block of the inputs, as a row of the inputs. -/
def rowAt (t : Fin cfg0.N) (i : Fin 8192) : Fin 16384 := ⟨t.val * 8192 + i.val, by have := point_lt t; omega⟩

/-- The starts' block is the whole list. -/
theorem block_0 (c : Dev nD) (t : Fin cfg0.N) (y : S256.Idx) : iblk m c 0 t y = V m c main_c y := by
  have e := (placed t).1
  show V m c main_c (((cfg0.win 0).blk t).view.emb y) = _
  refine congrArg _ (funext fun a => Fin.ext ?_)
  match a with
  | ⟨0, _⟩ => show win0_0.index t 0 * 256 + 1 * (y 0).val = (y 0).val; omega

/-- The angles' block is the whole array. -/
theorem block_1 (c : Dev nD) (t : Fin cfg0.N) (y : S64x128.Idx) : iblk m c 1 t y = V m c main_v1 y := by
  obtain ⟨e0, e1⟩ := (placed t).2.1
  show V m c main_v1 (((cfg0.win 1).blk t).view.emb y) = _
  refine congrArg _ (funext fun a => Fin.ext ?_)
  match a with
  | ⟨0, _⟩ => show win0_1.index t 0 * 64 + 1 * (y 0).val = (y 0).val; omega
  | ⟨1, _⟩ => show win0_1.index t 1 * 128 + 1 * (y 1).val = (y 1).val; omega

/-- The first mask's block is the whole array. -/
theorem block_2 (c : Dev nD) (t : Fin cfg0.N) (y : S256x128.Idx) : iblk m c 2 t y = V m c main_cst y := by
  obtain ⟨e0, e1⟩ := (placed t).2.2.1
  show V m c main_cst (((cfg0.win 2).blk t).view.emb y) = _
  refine congrArg _ (funext fun a => Fin.ext ?_)
  match a with
  | ⟨0, _⟩ => show win0_2.index t 0 * 256 + 1 * (y 0).val = (y 0).val; omega
  | ⟨1, _⟩ => show win0_2.index t 1 * 128 + 1 * (y 1).val = (y 1).val; omega

/-- The second mask's block is the whole array. -/
theorem block_3 (c : Dev nD) (t : Fin cfg0.N) (y : S256x128.Idx) : iblk m c 3 t y = V m c main_cst_0 y := by
  obtain ⟨e0, e1⟩ := (placed t).2.2.2.1
  show V m c main_cst_0 (((cfg0.win 3).blk t).view.emb y) = _
  refine congrArg _ (funext fun a => Fin.ext ?_)
  match a with
  | ⟨0, _⟩ => show win0_3.index t 0 * 256 + 1 * (y 0).val = (y 0).val; omega
  | ⟨1, _⟩ => show win0_3.index t 1 * 128 + 1 * (y 1).val = (y 1).val; omega

/-- The inputs' block at a point is that point's rows. -/
theorem block_4 (c : Dev nD) (t : Fin cfg0.N) (i : Fin 8192) (l : Fin 128) :
    iblk m c 4 t (ix2 i l) = m ((c : Thread nD τ).loc main_arg0) (ix2 (rowAt t i) l) := by
  obtain ⟨e0, e1⟩ := (placed t).2.2.2.2.1
  rw [← V_main_arg0 m c]
  show V m c main_arg0 (((cfg0.win 4).blk t).view.emb (ix2 i l)) = _
  refine congrArg _ (funext fun a => Fin.ext ?_)
  match a with
  | ⟨0, _⟩ => show win0_4.index t 0 * 8192 + 1 * i.val = t.val * 8192 + i.val; rw [e0]; omega
  | ⟨1, _⟩ => show win0_4.index t 1 * 128 + 1 * l.val = l.val; omega

/-- The bias's block is the bias. -/
theorem block_5 (c : Dev nD) (t : Fin cfg0.N) (l : Fin 128) :
    iblk m c 5 t (ix2 (0 : Fin 1) l) = m ((c : Thread nD τ).loc main_arg2) (ix1 l) := by
  obtain ⟨e0, e1⟩ := (placed t).2.2.2.2.2.1
  have h : ((cfg0.win 5).blk t).view.emb (ix2 (0 : Fin 1) l) = ix2 (0 : Fin 1) l := funext fun a => Fin.ext (by
    match a with
    | ⟨0, _⟩ => show win0_5.index t 0 * 1 + 1 * 0 = 0; omega
    | ⟨1, _⟩ => show win0_5.index t 1 * 128 + 1 * l.val = l.val; omega)
  show V m c main_v2 (((cfg0.win 5).blk t).view.emb (ix2 (0 : Fin 1) l)) = _
  rw [h, V_main_v2]
  refine shapeCast_apply _ _ _ (ix1 l) ?_
  refine (rowMajor_val1 _).trans ((rowMajor_val2 _ _ rfl).trans ?_).symm
  show 0 * 128 + l.val = l.val
  omega

/-- The word of zero, as an integer, is zero. -/
theorem zero_int (i : S_.Idx) : (sitofp (F := Ideal) .f32 (constantI S_ 32 0#32) i : EReal) = ((0 : ℝ) : EReal) := by
  show (((0#32 : BitVec 32).toInt : ℝ) : EReal) = _
  simp

/-- The angles, padded with zeros and laid out in rows of 128. -/
theorem padded (θ : S8128.Idx → EReal) (h : Finite θ) (a : Fin 64) (b : Fin 128) :
    shapeCast S64x128 (pad S8192 ![0] ![64] ![0] θ (sitofp (F := Ideal) .f32 (constantI S_ 32 0#32)) pads_S8128_S8192_0640 h_S_) shapeCasts_S8192_S64x128 (ix2 a b)
      = ((angles θ (128 * a.val + b.val) : ℝ) : EReal) := by
  have hn : 128 * a.val + b.val < 8192 := by omega
  refine (shapeCast_apply _ _ _ (ix1 (⟨128 * a.val + b.val, hn⟩ : Fin 8192)) ?_).trans ?_
  · refine (rowMajor_val1 _).trans ((rowMajor_val2 _ _ rfl).trans ?_).symm
    show a.val * 128 + b.val = 128 * a.val + b.val
    omega
  · by_cases hb : 128 * a.val + b.val < 8128
    · refine (pad_apply_of_inside _ _ _ _ _ _ _ _ (ix1 (⟨128 * a.val + b.val, hb⟩ : Fin 8128)) fun d => ?_).trans (angles_coe h ⟨_, hb⟩)
      match d with
      | ⟨0, _⟩ => show 128 * a.val + b.val = 0 + (128 * a.val + b.val) * (0 + 1); omega
    · refine (pad_apply_of_not_inside _ _ _ _ _ _ _ _ (0 : Fin 1) ?_).trans ?_
      · show ¬(0 ≤ 128 * a.val + b.val ∧ (128 * a.val + b.val - 0) % (0 + 1) = 0 ∧ (128 * a.val + b.val - 0) / (0 + 1) < 8128)
        omega
      · rw [zero_int]
        unfold angles
        rw [dif_neg hb]

/-- A word chosen between those of one and zero denotes the number so chosen. -/
theorem word_if (p : Prop) [Decidable p] : Ideal.ofBits .f32 (if p then 0x3F800000#32 else 0#32) = ((if p then 1 else 0 : ℝ) : EReal) := by
  split
  · exact one_word
  · exact zero_word

/-- The launch gives the matrix's construction what it needs. -/
theorem given (c : Dev nD) (h : Finite (m ((c : Thread nD τ).loc main_arg1))) :
    Given (angles (m ((c : Thread nD τ).loc main_arg1))) (iblk m c 0 t0_0) (iblk m c 1 t0_0) (iblk m c 2 t0_0) (iblk m c 3 t0_0) where
  starts r hr := by
    rw [← Tables.starts_eq r hr, block_0, V_main_c]
    exact congrArg (fun i => (lit0 i).toNat) (Fin.ext (rowMajor_val1 _))
  inside r := starts_block m c t0_0 (ix1 r)
  angles a b := by
    rw [block_1, V_main_v1]
    exact padded _ h a b
  mask r l := by
    rw [block_2, V_main_cst, ← word_if, ← Tables.mask_eq r l]
    exact congrArg (fun i => Ideal.ofBits .f32 (lit1 i)) (Fin.ext (rowMajor_val2 _ _ rfl))
  left r l := by
    rw [block_3, V_main_cst_0, ← word_if, ← Tables.left_eq r l]
    exact congrArg (fun i => Ideal.ofBits .f32 (lit2 i)) (Fin.ext (rowMajor_val2 _ _ rfl))

/-- What the result should hold. -/
def goal (c : Dev nD) : S16384x128.Idx → EReal :=
  result (m ((c : Thread nD τ).loc main_arg0)) (m ((c : Thread nD τ).loc main_arg1)) (m ((c : Thread nD τ).loc main_arg2))

/-- Inputs and angles are finite on a device. -/
def FiniteAt (c : Dev nD) : Prop := Finite (m ((c : Thread nD τ).loc main_arg0)) ∧ Finite (m ((c : Thread nD τ).loc main_arg1))

/-- A tile's entry is the result's at that row. -/
theorem tile_apply (c : Dev nD) (h : FiniteAt m c) (t : Fin cfg0.N) (i : Fin 8192) (l : Fin 128) :
    tile m c t (ix2 i l) = goal m c (ix2 (rowAt t i) l) := by
  unfold tile Q
  refine (pay4_apply _ _ (qmat_applies (given m c h.2)) _ i l (row (m ((c : Thread nD τ).loc main_arg0)) (rowAt t i)) (row_beyond _ _)
    fun k => (block_4 m c t i k).trans (row_coe h.1 _ k)).trans ?_
  rw [block_5]
  rfl

/-- A point's tile lies in the result at the point's rows. -/
theorem tile_placed (c : Dev nD) (h : FiniteAt m c) (t : Fin cfg0.N) (y : S8192x128.Idx) : tile m c t y = goal m c ((win0_6.blk t).view.emb y) := by
  obtain ⟨e0, e1⟩ := (placed t).2.2.2.2.2.2
  have hy : y = ix2 (y 0) (y 1) := funext fun a => match a with | ⟨0, _⟩ => rfl | ⟨1, _⟩ => rfl
  have hi : (win0_6.blk t).view.emb y = ix2 (rowAt t (y 0)) (y 1) := funext fun a => Fin.ext (by
    match a with
    | ⟨0, _⟩ => show win0_6.index t 0 * 8192 + 1 * (y 0).val = t.val * 8192 + (y 0).val; rw [e0]; omega
    | ⟨1, _⟩ => show win0_6.index t 1 * 128 + 1 * (y 1).val = (y 1).val; omega)
  exact ((congrArg (tile m c t) hy).trans (tile_apply m c h t (y 0) (y 1))).trans (congrArg (goal m c) hi.symm)

/-- What a point writes back is its part of the result. -/
theorem flushed_eq (c : Dev nD) (h : FiniteAt m c) (t : Fin cfg0.N) : (dats m 0 c).flushed 6 t = (win0_6.blk t).view.read (Elt Ideal) (goal m c) := by
  show (cfg0.win 6).cut (grid0.coords t) ((dats m 0 c).after 6 t) = _
  rw [after_6]
  exact funext (tile_placed m c h t)

/-- An index lies in a point's block of the result where its row does. -/
theorem mem_block (t : Fin cfg0.N) (i : S16384x128.Idx) :
    i ∈ ((cfg0.win 6).blk t).view.set ↔ t.val * 8192 ≤ (i 0).val ∧ (i 0).val < t.val * 8192 + 8192 := by
  show i ∈ ((View.whole main_v3).slice (win0_6.rect t)).set ↔ _
  rw [View.set_slice_whole, Rect.mem_set_unit]
  have e : win0_6.index t 0 * win0_6.size 0 = t.val * 8192 ∧ win0_6.xsize (grid0.coords t) 0 = 8192
      ∧ win0_6.index t 1 * win0_6.size 1 = 0 ∧ win0_6.xsize (grid0.coords t) 1 = 128 := by
    rcases fin_N0 t with rfl | rfl <;> decide +kernel
  have h1 : (i 1).val < 128 := (i 1).isLt
  constructor
  · intro h
    have h0 : win0_6.index t 0 * win0_6.size 0 ≤ (i 0).val ∧ (i 0).val < win0_6.index t 0 * win0_6.size 0 + win0_6.xsize (grid0.coords t) 0 := h 0
    rwa [e.1, e.2.1] at h0
  · intro h a
    match a with
    | ⟨0, _⟩ =>
      show win0_6.index t 0 * win0_6.size 0 ≤ (i 0).val ∧ (i 0).val < win0_6.index t 0 * win0_6.size 0 + win0_6.xsize (grid0.coords t) 0
      rwa [e.1, e.2.1]
    | ⟨1, _⟩ =>
      show win0_6.index t 1 * win0_6.size 1 ≤ (i 1).val ∧ (i 1).val < win0_6.index t 1 * win0_6.size 1 + win0_6.xsize (grid0.coords t) 1
      rw [e.2.2.1, e.2.2.2]
      omega

/-- Every index of the result lies in some point's block. -/
theorem cover (i : S16384x128.Idx) : ∃ t : Fin cfg0.N, (cfg0.win 6).flush t = true ∧ i ∈ ((cfg0.win 6).blk t).view.set := by
  have h0 : (i 0).val < 16384 := (i 0).isLt
  have hN : cfg0.N = 2 := N_0
  refine ⟨⟨(i 0).val / 8192, by omega⟩, flush0_6 _, ?_⟩
  rw [mem_block]
  dsimp only
  omega

/-- So the result's array ends as it should. -/
theorem final (c : Dev nD) (h : FiniteAt m c) : (dats m 0 c).arrAt 6 cfg0.N = goal m c :=
  (dats m 0 c).arrAt_eq_of_cover 6 (goal m c) (fun t _ => flushed_eq m c h t) cover

/-- The launch ends with the result as it should be and the arguments as they were. -/
theorem run (h : ∀ c : Dev nD, FiniteAt m c) : θ_run defs (onTc (τ := τ) (main (F := Ideal))) ⟨m, fun _ => 0, ρ⟩ fun r => ∀ c : Dev nD,
      r.2.mem ((c.tc : Thread nD τ).loc main_v3) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ k c => ⟨((k.1.1 c).1 6).trans (final m c (h c)), k.2.1 c⟩) (θ_run_and (launched m ρ) (frame m ρ))

end Cert.Proof.KI
end
-- ==== Proof.RefStep.lean ====
/- One trip of the reference's loop over the reals: it turns two columns by the trip's angle. -/
module

public import proofs.«01_k».proof.Proof.Gen.ReferenceIdeal.Run
public import proofs.«01_k».proof.Proof.Wires
public import Idealize.ShloMosaic.Lib.Routing.OpsOne
public import Idealize.ShloMosaic.Lib.Pointwise.Reshape
public import Idealize.ShloMosaic.Lib.DynamicIndex
public import Idealize.ShloMosaic.Lib.Pipeline.Value

@[expose] public section

noncomputable section

namespace Cert.Proof.Ref

open Cert.ReferenceIdeal Cert.ReferenceIdeal.Gen Cert.ReferenceIdeal.Value Cert.Proof.Wires
open Idealize.ShloMosaic Idealize.ShloMosaic.TcCoe Idealize.ShloMosaic.StableHlo

/-- Any index of a vector is the one of its coordinate. -/
theorem eq_one {n : ℕ} (j : (⟨1, ![n]⟩ : Shape).Idx) : j = ix1 (j 0) := by
  funext a
  match a with
  | ⟨0, _⟩ => rfl

/-- A column's number, wrapped where negative, is itself. -/
theorem wrap (p : IVec S_ 32) (j : S_.Idx) (k : Fin 128) (h : (p j).toNat = k.val) :
    (select (cmpi .slt p (constantI S_ 32 0#32)) (addi p (constantI S_ 32 128#32)) p j).toInt = (k.val : ℤ) := by
  have e : (p j).toInt = (k.val : ℤ) := by
    rw [BitVec.toInt_eq_toNat_of_lt (by omega), h]
  rw [select_slt_zero_of_nonneg p _ _ j (by omega), e]

/-- Writing one column of the array: that column is the update, the others stay. -/
theorem put_column (x : S16384x128.Idx → EReal) (idx : IVec S1 32) (u : S16384.Idx → EReal) (k : Fin 128) (hk : (idx (ix1 (0 : Fin 1))).toInt = (k.val : ℤ))
    (r : Fin 16384) (l : Fin 128) : Host.scatter scatter_S16384x128_S1_S16384_0_1_1_0 (fun _ b => b) x idx u (ix2 r l) = if l = k then u (ix1 r) else x (ix2 r l) := by
  have lands : ∀ (w : Fin 16384), scatter_S16384x128_S1_S16384_0_1_1_0.resultIdx? (ix1 w) idx = some (ix2 r l) ↔ w = r ∧ l = k := fun w =>
    Routing.lands_col (A := 16384) (N := 128) scatter_S16384x128_S1_S16384_0_1_1_0 rfl rfl idx k hk w r l
  have back : ∀ j : S16384.Idx, scatter_S16384x128_S1_S16384_0_1_1_0.resultIdx? j idx = some (ix2 r l) → j 0 = r ∧ l = k := fun j hj =>
    (lands (j 0)).1 ((congrArg (fun t => scatter_S16384x128_S1_S16384_0_1_1_0.resultIdx? t idx) (eq_one j).symm).trans hj)
  by_cases h : l = k
  · rw [if_pos h]
    refine Routing.scatter_set_hit _ x idx u _ _ (fun j hj => ?_) (ix1 r) ((lands r).2 ⟨rfl, h⟩)
    exact (congrArg u (eq_one j)).trans (congrArg (fun t => u (ix1 t)) (back j hj).1)
  · rw [if_neg h]
    exact Routing.scatter_set_miss _ x idx u _ fun j hj => h (back j hj).2

/-- The same with the column's number, wrapped where negative, as the reference prints it. -/
theorem put_at (x : S16384x128.Idx → EReal) (p : IVec S_ 32) (u : S16384.Idx → EReal) (k : Fin 128) (hp : ∀ j, (p j).toNat = k.val) (r : Fin 16384) (l : Fin 128) :
    Host.scatter scatter_S16384x128_S1_S16384_0_1_1_0 (fun _ b => b) x (broadcastInDim S1 ![] bcast_S_S1 (select (cmpi .slt p (constantI S_ 32 0#32)) (addi p (constantI S_ 32 128#32)) p)) u (ix2 r l)
      = if l = k then u (ix1 r) else x (ix2 r l) :=
  put_column x _ u k (by
    unfold broadcastInDim
    exact wrap p _ k (hp _)) r l

/-- Reading one entry of a table at the counter. -/
theorem pick {α : Type} (x : S8128.Idx → α) (f : Fin 1 → ℤ) (t : Fin 8128) (hf : f 0 = (t.val : ℤ)) (j : S_.Idx) :
    shapeCast S_ (Host.dynamicSlice S1 x f sliceFits_S8128_S1) shapeCasts_S1_S_ j = x (ix1 t) := by
  rw [shapeCast_apply _ shapeCasts_S1_S_ j (ix1 (0 : Fin 1)) (by
    rw [rowMajor_val1]
    have h : (S_.rowMajor j).val < 1 := (S_.rowMajor j).isLt
    show 0 = _
    omega)]
  have hs : S8128.Slices (fun _ => t.val) S1 := ⟨rfl, fun a => by match a with | ⟨0, _⟩ => exact t.isLt⟩
  rw [Host.dynamicSlice_eq_extractStridedSlice S1 x f (fun _ => t.val) sliceFits_S8128_S1 hs (fun a => by match a with | ⟨0, _⟩ => exact hf)]
  exact extractStridedSlice_apply _ x hs _ (ix1 t) (fun a => by match a with | ⟨0, _⟩ => rfl)

/-- Reading one column of the array. -/
theorem take_column {α : Type} (x : S16384x128.Idx → α) (f : Fin 2 → ℤ) (k : Fin 128) (h0 : f 0 = 0) (h1 : f 1 = (k.val : ℤ)) (r : Fin 16384) :
    shapeCast S16384 (Host.dynamicSlice S16384x1 x f sliceFits_S16384x128_S16384x1) shapeCasts_S16384x1_S16384 (ix1 r) = x (ix2 r k) := by
  rw [shapeCast_apply _ shapeCasts_S16384x1_S16384 (ix1 r) (ix2 r (0 : Fin 1)) (by
    rw [rowMajor_val1, rowMajor_val2 _ 1 rfl]
    show r.val * 1 + 0 = r.val
    omega)]
  have hs : S16384x128.Slices ![0, k.val] S16384x1 := ⟨rfl, fun a => by
    match a with
    | ⟨0, _⟩ => exact Nat.le_refl 16384
    | ⟨1, _⟩ => exact k.isLt⟩
  rw [Host.dynamicSlice_eq_extractStridedSlice S16384x1 x f ![0, k.val] sliceFits_S16384x128_S16384x1 hs (fun a => by
    match a with
    | ⟨0, _⟩ => exact h0
    | ⟨1, _⟩ => exact h1)]
  refine extractStridedSlice_apply _ x hs _ (ix2 r k) (fun a => ?_)
  match a with
  | ⟨0, _⟩ => show r.val = 0 + r.val; omega
  | ⟨1, _⟩ => rfl

/-- The row's number, a zero, wrapped likewise. -/
theorem wrap_zero (j : S_.Idx) : (select (cmpi .slt (constantI S_ 32 0#32) (constantI S_ 32 0#32)) (addi (constantI S_ 32 0#32) (constantI S_ 32 16384#32)) (constantI S_ 32 0#32) j).toInt = 0 := by
  rw [select_slt_zero_of_nonneg _ _ _ j (show (0 : ℤ) ≤ (0#32 : BitVec 32).toInt by decide)]
  rfl

/-- A number spread down a column. -/
theorem spread_apply (z : S_.Idx → EReal) (w : EReal) (hz : ∀ j, z j = w) (r : Fin 16384) : broadcastInDim S16384 ![] bcast_S_S16384 z (ix1 r) = w := by
  unfold broadcastInDim
  exact hz _

/-- One entry of the turned left column. -/
theorem left_entry (x y c s : FVec Ideal S16384 .f32) (j : S16384.Idx) (p q d e : ℝ) (hx : x j = (p : EReal)) (hy : y j = (q : EReal)) (hc : c j = (d : EReal)) (hs : s j = (e : EReal)) :
    subf (mulf x c) (mulf y s) j = ((p * d - q * e : ℝ) : EReal) := by
  show (x j * c j - y j * s j : EReal) = _
  rw [hx, hy, hc, hs, EReal.coe_sub, EReal.coe_mul, EReal.coe_mul]

/-- One entry of the turned right column. -/
theorem right_entry (x y c s : FVec Ideal S16384 .f32) (j : S16384.Idx) (p q d e : ℝ) (hx : x j = (p : EReal)) (hy : y j = (q : EReal)) (hc : c j = (d : EReal)) (hs : s j = (e : EReal)) :
    addf (mulf x s) (mulf y c) j = ((p * e + q * d : ℝ) : EReal) := by
  show (x j * s j + y j * c j : EReal) = _
  rw [hx, hy, hc, hs, EReal.coe_add, EReal.coe_mul, EReal.coe_mul]

/-- A state in which the counter stands at `t` and the tables name columns and angle of wire `t`. -/
structure Turn (V : Valuation τ sig (Elt Ideal)) (t : Fin 8128) (p q : Fin 128) (a : ℝ) : Prop where
  ctr : V (Proc.devRef .tc main_v0_3) = fun _ => BitVec.ofNat 32 t.val
  left : (show BitVec 32 from V (Proc.devRef .tc main_v0_0) (ix1 t)).toNat = p.val
  right : (show BitVec 32 from V (Proc.devRef .tc main_v0_1) (ix1 t)).toNat = q.val
  ang : (show EReal from V (Proc.devRef .tc main_v0_2) (ix1 t)) = (a : EReal)

section
variable {V : Valuation τ sig (Elt Ideal)} {t : Fin 8128} {p q : Fin 128} {a : ℝ} (H : Turn V t p q a)
include H

/-- The counter, read as the tables' index. -/
theorem at_ctr : (fun k => (((![V (Proc.devRef .tc main_v0_3)] : Fin 1 → (⟨S_, .i32⟩ : BufTy).Contents (Elt Ideal))) k (Shape.Idx.first h_S_)).toInt) 0 = (t.val : ℤ) := by
  show (show BitVec 32 from V (Proc.devRef .tc main_v0_3) (Shape.Idx.first h_S_)).toInt = _
  rw [H.ctr]
  exact toInt_ofNat_of_lt (by omega)

/-- The left column's number. -/
theorem v4_apply (j : S_.Idx) : (show BitVec 32 from res_main_while0b_v4 V j).toNat = p.val := by
  unfold res_main_while0b_v4
  exact (congrArg BitVec.toNat (pick _ _ t (at_ctr H) j)).trans H.left

/-- The right column's number. -/
theorem v5_apply (j : S_.Idx) : (show BitVec 32 from res_main_while0b_v5 V j).toNat = q.val := by
  unfold res_main_while0b_v5
  exact (congrArg BitVec.toNat (pick _ _ t (at_ctr H) j)).trans H.right

/-- The angle. -/
theorem v6_apply (j : S_.Idx) : (show EReal from res_main_while0b_v6 V j) = (a : EReal) := by
  unfold res_main_while0b_v6
  exact (pick _ _ t (at_ctr H) j).trans H.ang

/-- Its cosine. -/
theorem v7_apply (j : S_.Idx) : (show EReal from res_main_while0b_v7 V j) = ((Real.cos a : ℝ) : EReal) := by
  unfold res_main_while0b_v7
  show Ideal.cos (show EReal from res_main_while0b_v6 V j) = _
  rw [v6_apply H, Ideal.cos_coe]

/-- Its sine. -/
theorem v8_apply (j : S_.Idx) : (show EReal from res_main_while0b_v8 V j) = ((Real.sin a : ℝ) : EReal) := by
  unfold res_main_while0b_v8
  show Ideal.sin (show EReal from res_main_while0b_v6 V j) = _
  rw [v6_apply H, Ideal.sin_coe]

/-- The left column. -/
theorem v16_apply (r : Fin 16384) : res_main_while0b_v16 V (ix1 r) = V (Proc.devRef .tc main_v0_4) (ix2 r p) := by
  unfold res_main_while0b_v16
  exact take_column _ _ p (wrap_zero (Shape.Idx.first h_S_)) (wrap _ (Shape.Idx.first h_S_) p (v4_apply H _)) r

/-- The right column. -/
theorem v24_apply (r : Fin 16384) : res_main_while0b_v24 V (ix1 r) = V (Proc.devRef .tc main_v0_4) (ix2 r q) := by
  unfold res_main_while0b_v24
  exact take_column _ _ q (wrap_zero (Shape.Idx.first h_S_)) (wrap _ (Shape.Idx.first h_S_) q (v5_apply H _)) r

/-- The array after the trip: the two columns turned, the others as they were. -/
theorem array_apply (r : Fin 16384) (l : Fin 128) (v : ℕ → ℝ) (hv : ∀ l : Fin 128, (show EReal from V (Proc.devRef .tc main_v0_4) (ix2 r l)) = ((v l : ℝ) : EReal)) (hq : q.val = p.val + 1) :
    (show EReal from step_main_v0_4 V (ix2 r l)) = ((rot p a v l : ℝ) : EReal) := by
  have hx : ∀ r, res_main_while0b_v16 V (ix1 r) = V (Proc.devRef .tc main_v0_4) (ix2 r p) := v16_apply H
  have hy : ∀ r, res_main_while0b_v24 V (ix1 r) = V (Proc.devRef .tc main_v0_4) (ix2 r q) := v24_apply H
  have hc : broadcastInDim S16384 ![] bcast_S_S16384 (res_main_while0b_v7 V) (ix1 r) = ((Real.cos a : ℝ) : EReal) := spread_apply (res_main_while0b_v7 V) _ (v7_apply H) r
  have hs : broadcastInDim S16384 ![] bcast_S_S16384 (res_main_while0b_v8 V) (ix1 r) = ((Real.sin a : ℝ) : EReal) := spread_apply (res_main_while0b_v8 V) _ (v8_apply H) r
  unfold step_main_v0_4
  dsimp only [id]
  refine (put_at _ (res_main_while0b_v5 V) _ q (v5_apply H) r l).trans ?_
  by_cases h1 : l = q
  · rw [if_pos h1]
    have e : rot p a v l = v p * Real.sin a + v q * Real.cos a := by
      unfold rot
      rw [h1, if_neg (by omega), if_pos hq, ← hq]
    rw [e]
    exact right_entry _ _ _ _ _ _ _ _ _ ((hx r).trans (hv p)) ((hy r).trans (hv q)) hc hs
  · rw [if_neg h1]
    refine (put_at _ (res_main_while0b_v4 V) _ p (v4_apply H) r l).trans ?_
    by_cases h0 : l = p
    · rw [if_pos h0]
      have e : rot p a v l = v p * Real.cos a - v q * Real.sin a := by
        unfold rot
        rw [h0, if_pos rfl, ← hq]
      rw [e]
      exact left_entry _ _ _ _ _ _ _ _ _ ((hx r).trans (hv p)) ((hy r).trans (hv q)) hc hs
    · rw [if_neg h0]
      have e : rot p a v l = v l := by
        unfold rot
        rw [if_neg (fun h => h0 (Fin.ext h)), if_neg (fun h => h1 (Fin.ext (h.trans hq.symm)))]
      rw [e]
      exact hv l

end

/-- What the loop starts from: tables of wires and angles, the counter at zero, and an array of reals. -/
structure Entry (V : Valuation τ sig (Elt Ideal)) (P : ℕ → ℕ) (T : ℕ → ℝ) (v : Fin 16384 → ℕ → ℝ) : Prop where
  low : ∀ t : Fin 8128, P t < 127
  left : ∀ t : Fin 8128, (show BitVec 32 from V (Proc.devRef .tc main_v0_0) (ix1 t)).toNat = P t
  right : ∀ t : Fin 8128, (show BitVec 32 from V (Proc.devRef .tc main_v0_1) (ix1 t)).toNat = P t + 1
  ang : ∀ t : Fin 8128, (show EReal from V (Proc.devRef .tc main_v0_2) (ix1 t)) = ((T t : ℝ) : EReal)
  ctr : V (Proc.devRef .tc main_v0_3) = fun _ => 0#32
  arr : ∀ (r : Fin 16384) (l : Fin 128), (show EReal from V (Proc.devRef .tc main_v0_4) (ix2 r l)) = ((v r l : ℝ) : EReal)

/-- The tables stay as they are throughout. -/
theorem tables_stay (V : Valuation τ sig (Elt Ideal)) : ∀ k, (STEP^[k] V) (Proc.devRef .tc main_v0_0) = V (Proc.devRef .tc main_v0_0)
    ∧ (STEP^[k] V) (Proc.devRef .tc main_v0_1) = V (Proc.devRef .tc main_v0_1) ∧ (STEP^[k] V) (Proc.devRef .tc main_v0_2) = V (Proc.devRef .tc main_v0_2)
  | 0 => ⟨rfl, rfl, rfl⟩
  | k + 1 => by
    rw [Function.iterate_succ_apply', STEP_main_v0_0, STEP_main_v0_1, STEP_main_v0_2]
    exact tables_stay V k

/-- The counter counts. -/
theorem counts (V : Valuation τ sig (Elt Ideal)) (h : V (Proc.devRef .tc main_v0_3) = fun _ => 0#32) : ∀ k, (STEP^[k] V) (Proc.devRef .tc main_v0_3) = fun _ => BitVec.ofNat 32 k
  | 0 => h
  | k + 1 => by
    rw [Function.iterate_succ_apply', STEP_main_v0_3]
    unfold step_main_v0_3
    rw [counts V h k]
    funext _
    exact BitVec.ofNat_add_ofNat k 1

/-- After `k` trips the array's rows have the first `k` wires applied. -/
theorem rows {V : Valuation τ sig (Elt Ideal)} {P : ℕ → ℕ} {T : ℕ → ℝ} {v : Fin 16384 → ℕ → ℝ} (E : Entry V P T v) :
    ∀ k, k ≤ 8128 → ∀ (r : Fin 16384) (l : Fin 128), (show EReal from (STEP^[k] V) (Proc.devRef .tc main_v0_4) (ix2 r l)) = ((wires P T k (v r) l : ℝ) : EReal)
  | 0, _, r, l => E.arr r l
  | k + 1, hk, r, l => by
    have hlow : P k < 127 := E.low ⟨k, hk⟩
    have hs := tables_stay V k
    have H : Turn (STEP^[k] V) ⟨k, hk⟩ ⟨P k, by omega⟩ ⟨P k + 1, by omega⟩ (T k) :=
      ⟨counts V E.ctr k, by rw [hs.1]; exact E.left ⟨k, hk⟩, by rw [hs.2.1]; exact E.right ⟨k, hk⟩, by rw [hs.2.2]; exact E.ang ⟨k, hk⟩⟩
    rw [Function.iterate_succ_apply', STEP_main_v0_4]
    exact array_apply H r l (wires P T k (v r)) (fun l => rows E k (by omega) r l) rfl

end Cert.Proof.Ref
end
-- ==== Proof.TablesRef.lean ====
/- The reference's wire tables, read as the groups of the network. -/
module

public import proofs.«01_k».proof.ReferenceIdeal
public import proofs.«01_k».proof.Proof.Wires

@[expose] public section

noncomputable section

namespace Cert.Proof.Tables

open Cert.Proof.Wires

/-- The number of the first wire of group `g`, in closed form. -/
def first (g : ℕ) : ℕ := if g ≤ 126 then (g + 1) * (g + 1) / 4 else 8128 - (254 - g) * (254 - g) / 4

/-- The closed form is the running sum. -/
theorem start_eq : ∀ g : Fin 254, start g = first g := by decide +kernel

/-- The left entry of each wire of the reference. -/
theorem wire_left : ∀ (g : Fin 253) (i : Fin 64), i.val < cnt g → ReferenceIdeal.lit0 ⟨(first g + i.val) % 8128, Nat.mod_lt _ (by decide)⟩ = BitVec.ofNat 32 (g.val % 2 + 2 * i.val) := by
  decide +kernel

/-- The right entry of each wire is the next, and both are among the 128 entries. -/
theorem wire_right : ∀ t : Fin 8128, (ReferenceIdeal.lit0 t).toNat < 127 ∧ (ReferenceIdeal.lit1 t).toNat = (ReferenceIdeal.lit0 t).toNat + 1 := by
  decide +kernel

end Cert.Proof.Tables
end
-- ==== Proof.RefValue.lean ====
/- The reference's result: the wires one after the other are the groups one after the other. -/
module

public import proofs.«01_k».proof.Proof.RefStep
public import proofs.«01_k».proof.Proof.TablesRef
public import proofs.«01_k».proof.Proof.Result
public import Idealize.ShloMosaic.Lib.ValueIdx

@[expose] public section

noncomputable section

namespace Cert.Proof.Ref

open Cert.ReferenceIdeal Cert.ReferenceIdeal.Gen Cert.ReferenceIdeal.Value Cert.Proof.Wires
open Idealize.ShloMosaic Idealize.ShloMosaic.TcCoe Idealize.ShloMosaic.StableHlo

variable (m : (ℓ : Loc nD τ sig) → Buf (Elt Ideal) ℓ)

/-- The loop starts with the left ends of the wires, -/
theorem entry_left (c : Dev nD) : entryContents preI m c (Proc.devRef .tc main_v0_0) = fun i => lit0 (S8128.rowMajor i) := by
  simp only [entryContents, afterL_cons, afterL_nil]
  after_reads_simp
  rfl

/-- the right ends, -/
theorem entry_right (c : Dev nD) : entryContents preI m c (Proc.devRef .tc main_v0_1) = fun i => lit1 (S8128.rowMajor i) := by
  simp only [entryContents, afterL_cons, afterL_nil]
  after_reads_simp
  rfl

/-- the angles -/
theorem entry_angles (c : Dev nD) : entryContents preI m c (Proc.devRef .tc main_v0_2) = m ((c.tc : Thread nD τ).loc main_arg1) := by
  simp only [entryContents, afterL_cons, afterL_nil]
  after_reads_simp
  rfl

/-- and the inputs. -/
theorem entry_inputs (c : Dev nD) : entryContents preI m c (Proc.devRef .tc main_v0_4) = m ((c.tc : Thread nD τ).loc main_arg0) := by
  simp only [entryContents, afterL_cons, afterL_nil]
  after_reads_simp
  rfl

/-- The left end of each wire. -/
def ends (t : ℕ) : ℕ := (lit0 ⟨t % 8128, Nat.mod_lt _ (by decide)⟩).toNat

/-- The left end of a wire of the table. -/
theorem ends_at (t : Fin 8128) : ends t = (lit0 t).toNat :=
  congrArg (fun i => (lit0 i).toNat) (Fin.ext (Nat.mod_eq_of_lt t.isLt))

/-- The wires of group `g` lie on neighbouring pairs. -/
theorem ends_group (g : ℕ) (i : ℕ) (hi : i < cnt g) : ends (start g + i) = g % 2 + 2 * i := by
  have hg : g < 253 := by
    by_contra h
    unfold cnt at hi
    rw [if_neg h] at hi
    omega
  have hc : cnt g ≤ 64 := by
    unfold cnt
    rw [if_pos hg]
    omega
  unfold ends
  have hs : start g = Tables.first g := Tables.start_eq ⟨g, by omega⟩
  rw [hs]
  refine (congrArg BitVec.toNat (Tables.wire_left ⟨g, hg⟩ ⟨i, by omega⟩ hi)).trans ?_
  show (BitVec.ofNat 32 (g % 2 + 2 * i)).toNat = _
  rw [BitVec.toNat_ofNat]
  omega

/-- All the wires are all the groups. -/
theorem wires_all (a : ℕ → ℝ) (v : ℕ → ℝ) : wires ends a 8128 v = lays a 0 256 v := by
  have h : start 256 = 8128 := (show start 256 = start 253 by rfl).trans ((Tables.start_eq ⟨253, by decide⟩).trans (by decide))
  rw [← h]
  exact wires_eq_lays ends a v ends_group 256

/-- What the loop starts from. -/
theorem entry (c : Dev nD) (hx : Finite (m ((c.tc : Thread nD τ).loc main_arg0))) (hθ : Finite (m ((c.tc : Thread nD τ).loc main_arg1))) :
    Entry (entryContents preI m c) ends (angles (m ((c.tc : Thread nD τ).loc main_arg1))) (row (m ((c.tc : Thread nD τ).loc main_arg0))) where
  low t := by rw [ends_at]; exact (Tables.wire_right t).1
  left t := by
    rw [entry_left, ends_at]
    exact congrArg (fun i => (lit0 i).toNat) (Fin.ext (rowMajor_val1 _))
  right t := by
    rw [entry_right, ends_at, ← (Tables.wire_right t).2]
    exact congrArg (fun i => (lit1 i).toNat) (Fin.ext (rowMajor_val1 _))
  ang t := by
    rw [entry_angles]
    exact angles_coe hθ t
  ctr := ctr_entry m c
  arr r l := by
    rw [entry_inputs]
    exact row_coe hx r l

/-- The bias, spread over the rows. -/
theorem bias_apply (b : S128.Idx → EReal) (r : Fin 16384) (l : Fin 128) :
    broadcastInDim S16384x128 ![0, 1] bcast_S1x128_S16384x128_0_1 (broadcastInDim S1x128 ![1] bcast_S128_S1x128_1 b) (ix2 r l) = b (ix1 l) :=
  (broadcastInDim_apply ![0, 1] bcast_S1x128_S16384x128_0_1 _ (ix2 r l) (ix2 (0 : Fin 1) l) (fun a => match a with | ⟨0, _⟩ => rfl | ⟨1, _⟩ => rfl)).trans
    (broadcastInDim_apply ![1] bcast_S128_S1x128_1 b _ (ix1 l) (fun a => match a with | ⟨0, _⟩ => rfl))

/-- The reference's result. -/
theorem out_eq (c : Dev nD) (hx : Finite (m ((c.tc : Thread nD τ).loc main_arg0))) (hθ : Finite (m ((c.tc : Thread nD τ).loc main_arg1))) :
    out_main_v3 (STEP^[8128] (entryContents preI m c)) = result (m ((c.tc : Thread nD τ).loc main_arg0)) (m ((c.tc : Thread nD τ).loc main_arg1)) (m ((c.tc : Thread nD τ).loc main_arg2)) := by
  funext i
  have hi : i = ix2 (i 0) (i 1) := funext fun a => match a with | ⟨0, _⟩ => rfl | ⟨1, _⟩ => rfl
  have h := rows (entry m c hx hθ) 8128 (Nat.le_refl _) (i 0) (i 1)
  rw [wires_all] at h
  unfold out_main_v3
  rw [ValueIdx.addf_apply, iter_main_arg2]
  refine congrArg₂ (fun y z : EReal => y + z) ?_ ?_
  · exact (congrArg _ hi).trans h
  · exact (congrArg _ hi).trans (bias_apply _ (i 0) (i 1))

end Cert.Proof.Ref
end
-- ==== Proof.lean ====
/- The proof of the certificate: each conjunct from the module that proves it. -/
module

public import proofs.«01_k».proof.Defs
public import proofs.«01_k».proof.Proof.BitsFrame
public import proofs.«01_k».proof.Proof.ValRun
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

/-- The reference ends with its arguments as they were and, having no semaphores, every counter at zero. -/
theorem reference_frame (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run _ _ _).mono (fun r h => ⟨fun c => (h c).2, sem_eq_zero_of_no_sems (by decide) r.2⟩) (ReferenceIdeal.Value.run (F := Ideal) m ρ)

/-- Where inputs and angles are finite, both programs end with the same result: each row turned by all the wires, plus the bias. -/
theorem algebraic : haveI := finite_facts; Cert.algebraic_KernelIdeal_ReferenceIdeal_pre_finite := by
  intro m g m' g' hpre hargs
  haveI := finite_facts
  have hf : ∀ c, KI.FiniteAt m c := fun c => finite_of_pre _ _ _ (hpre c)
  refine ⟨KI.goal m, KI.run m g hf, (θ_run _ _ _).mono (fun _ h c => ⟨(h c).1.trans ?_, (h c).2⟩) (ReferenceIdeal.Value.run (F := Ideal) m' g')⟩
  obtain ⟨h0, h1, h2⟩ := hargs c
  have e := Ref.out_eq m' c (by rw [h0]; exact (hf c).1) (by rw [h1]; exact (hf c).2)
  rw [h0, h1, h2] at e
  exact e

/-- The certificate. -/
theorem claim : Cert.Claim :=
  ⟨Kernel.Gen.facts, KernelIdeal.Gen.facts, ReferenceIdeal.Gen.facts, finite_facts,
    KI.kernel_frame, fun m ρ _ => KI.frame m ρ, fun m ρ _ => KI.frame m ρ,
    fun m ρ _ => reference_frame m ρ, fun m ρ _ => reference_frame m ρ, trivial, algebraic⟩

end Cert.Proof

end
